-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x20000x2 : Shape := ⟨3, ![2, 20000, 2]⟩
abbrev S2x20000x4 : Shape := ⟨3, ![2, 20000, 4]⟩
abbrev S4 : Shape := ⟨1, ![4]⟩
abbrev S2x20000x1 : Shape := ⟨3, ![2, 20000, 1]⟩
abbrev S2x20000 : Shape := ⟨2, ![2, 20000]⟩
abbrev S2x6000 : Shape := ⟨2, ![2, 6000]⟩
abbrev S1x1x4 : Shape := ⟨3, ![1, 1, 4]⟩
abbrev S2x6000x1 : Shape := ⟨3, ![2, 6000, 1]⟩
abbrev S_ : Shape := ⟨0, ![]⟩
abbrev S1 : Shape := ⟨1, ![1]⟩
abbrev S1x1x1 : Shape := ⟨3, ![1, 1, 1]⟩
abbrev S2x6000x4 : Shape := ⟨3, ![2, 6000, 4]⟩
abbrev S2x6000x2 : Shape := ⟨3, ![2, 6000, 2]⟩
abbrev S2x6144x4 : Shape := ⟨3, ![2, 6144, 4]⟩
abbrev S2x4x6144 : Shape := ⟨3, ![2, 4, 6144]⟩
abbrev S2x1000x4 : Shape := ⟨3, ![2, 1000, 4]⟩
abbrev S1x4x6144 : Shape := ⟨3, ![1, 4, 6144]⟩
abbrev S1x1000x4 : Shape := ⟨3, ![1, 1000, 4]⟩
abbrev S8x6144 : Shape := ⟨2, ![8, 6144]⟩
abbrev S1x1x6144 : Shape := ⟨3, ![1, 1, 6144]⟩
abbrev S6144 : Shape := ⟨1, ![6144]⟩
abbrev S1x6144 : Shape := ⟨2, ![1, 6144]⟩
abbrev S512x512 : Shape := ⟨2, ![512, 512]⟩
abbrev S1x512 : Shape := ⟨2, ![1, 512]⟩
abbrev S512 : Shape := ⟨1, ![512]⟩
abbrev S512x1 : Shape := ⟨2, ![512, 1]⟩
abbrev S1x1x512 : Shape := ⟨3, ![1, 1, 512]⟩
abbrev S1024x512 : Shape := ⟨2, ![1024, 512]⟩
abbrev S1024x4 : Shape := ⟨2, ![1024, 4]⟩
abbrev S512x4 : Shape := ⟨2, ![512, 4]⟩
abbrev S1000x4 : Shape := ⟨2, ![1000, 4]⟩

abbrev nBuf : Space → Nat
  | .hbm => 70
  | .vmem => 7
  | .smem => 0
  | _ => 0

abbrev bufTy : (tb : Table) → Fin (tcTables nBuf tb) → BufTy
  | .hbm, ⟨0, _⟩ => ⟨S2x20000x2, .f32⟩
  | .hbm, ⟨1, _⟩ => ⟨S2x20000x4, .f32⟩
  | .hbm, ⟨2, _⟩ => ⟨S2x20000x4, .f32⟩
  | .hbm, ⟨3, _⟩ => ⟨S4, .f32⟩
  | .hbm, ⟨4, _⟩ => ⟨S2x20000x1, .f32⟩
  | .hbm, ⟨5, _⟩ => ⟨S2x20000, .f32⟩
  | .hbm, ⟨6, _⟩ => ⟨S2x6000, .f32⟩
  | .hbm, ⟨7, _⟩ => ⟨S2x6000, .i32⟩
  | .hbm, ⟨8, _⟩ => ⟨S1x1x4, .f32⟩
  | .hbm, ⟨9, _⟩ => ⟨S2x20000x4, .f32⟩
  | .hbm, ⟨10, _⟩ => ⟨S2x20000x4, .f32⟩
  | .hbm, ⟨11, _⟩ => ⟨S2x6000x1, .i32⟩
  | .hbm, ⟨12, _⟩ => ⟨S_, .i32⟩
  | .hbm, ⟨13, _⟩ => ⟨S2x6000x1, .i32⟩
  | .hbm, ⟨14, _⟩ => ⟨S2x6000x1, .i1⟩
  | .hbm, ⟨15, _⟩ => ⟨S_, .i32⟩
  | .hbm, ⟨16, _⟩ => ⟨S2x6000x1, .i32⟩
  | .hbm, ⟨17, _⟩ => ⟨S2x6000x1, .i32⟩
  | .hbm, ⟨18, _⟩ => ⟨S2x6000x1, .i32⟩
  | .hbm, ⟨19, _⟩ => ⟨S1, .i32⟩
  | .hbm, ⟨20, _⟩ => ⟨S_, .i32⟩
  | .hbm, ⟨21, _⟩ => ⟨S2x6000x1, .i32⟩
  | .hbm, ⟨22, _⟩ => ⟨S2x6000x1, .i1⟩
  | .hbm, ⟨23, _⟩ => ⟨S1x1x1, .i32⟩
  | .hbm, ⟨24, _⟩ => ⟨S2x6000x1, .i32⟩
  | .hbm, ⟨25, _⟩ => ⟨S2x6000x1, .i1⟩
  | .hbm, ⟨26, _⟩ => ⟨S2x6000x1, .i1⟩
  | .hbm, ⟨27, _⟩ => ⟨S_, .i1⟩
  | .hbm, ⟨28, _⟩ => ⟨S2x6000, .i1⟩
  | .hbm, ⟨29, _⟩ => ⟨S2x6000x4, .f32⟩
  | .hbm, ⟨30, _⟩ => ⟨S2x6000x4, .i1⟩
  | .hbm, ⟨31, _⟩ => ⟨S_, .f32⟩
  | .hbm, ⟨32, _⟩ => ⟨S2x6000x4, .f32⟩
  | .hbm, ⟨33, _⟩ => ⟨S2x6000x4, .f32⟩
  | .hbm, ⟨34, _⟩ => ⟨S2x6000x2, .f32⟩
  | .hbm, ⟨35, _⟩ => ⟨S2x6000x2, .f32⟩
  | .hbm, ⟨36, _⟩ => ⟨S2x6000x2, .f32⟩
  | .hbm, ⟨37, _⟩ => ⟨S2x6000x4, .f32⟩
  | .hbm, ⟨38, _⟩ => ⟨S2x6000x1, .i32⟩
  | .hbm, ⟨39, _⟩ => ⟨S_, .i32⟩
  | .hbm, ⟨40, _⟩ => ⟨S2x6000x1, .i32⟩
  | .hbm, ⟨41, _⟩ => ⟨S2x6000x1, .i1⟩
  | .hbm, ⟨42, _⟩ => ⟨S_, .i32⟩
  | .hbm, ⟨43, _⟩ => ⟨S2x6000x1, .i32⟩
  | .hbm, ⟨44, _⟩ => ⟨S2x6000x1, .i32⟩
  | .hbm, ⟨45, _⟩ => ⟨S2x6000x1, .i32⟩
  | .hbm, ⟨46, _⟩ => ⟨S1, .i32⟩
  | .hbm, ⟨47, _⟩ => ⟨S_, .i32⟩
  | .hbm, ⟨48, _⟩ => ⟨S2x6000x1, .i32⟩
  | .hbm, ⟨49, _⟩ => ⟨S2x6000x1, .i1⟩
  | .hbm, ⟨50, _⟩ => ⟨S1x1x1, .i32⟩
  | .hbm, ⟨51, _⟩ => ⟨S2x6000x1, .i32⟩
  | .hbm, ⟨52, _⟩ => ⟨S2x6000x1, .i1⟩
  | .hbm, ⟨53, _⟩ => ⟨S2x6000x1, .i1⟩
  | .hbm, ⟨54, _⟩ => ⟨S_, .i1⟩
  | .hbm, ⟨55, _⟩ => ⟨S2x6000, .i1⟩
  | .hbm, ⟨56, _⟩ => ⟨S2x6000x4, .f32⟩
  | .hbm, ⟨57, _⟩ => ⟨S2x6000x4, .i1⟩
  | .hbm, ⟨58, _⟩ => ⟨S_, .f32⟩
  | .hbm, ⟨59, _⟩ => ⟨S2x6000x4, .f32⟩
  | .hbm, ⟨60, _⟩ => ⟨S2x6000x4, .f32⟩
  | .hbm, ⟨61, _⟩ => ⟨S_, .i32⟩
  | .hbm, ⟨62, _⟩ => ⟨S_, .f32⟩
  | .hbm, ⟨63, _⟩ => ⟨S2x6144x4, .f32⟩
  | .hbm, ⟨64, _⟩ => ⟨S_, .i32⟩
  | .hbm, ⟨65, _⟩ => ⟨S_, .f32⟩
  | .hbm, ⟨66, _⟩ => ⟨S2x6144x4, .f32⟩
  | .hbm, ⟨67, _⟩ => ⟨S2x4x6144, .f32⟩
  | .hbm, ⟨68, _⟩ => ⟨S2x4x6144, .f32⟩
  | .hbm, ⟨69, _⟩ => ⟨S2x1000x4, .f32⟩
  | .local _ .vmem, ⟨0, _⟩ => ⟨S1x4x6144, .f32⟩
  | .local _ .vmem, ⟨1, _⟩ => ⟨S1x4x6144, .f32⟩
  | .local _ .vmem, ⟨2, _⟩ => ⟨S1x4x6144, .f32⟩
  | .local _ .vmem, ⟨3, _⟩ => ⟨S1x4x6144, .f32⟩
  | .local _ .vmem, ⟨4, _⟩ => ⟨S1x1000x4, .f32⟩
  | .local _ .vmem, ⟨5, _⟩ => ⟨S1x1000x4, .f32⟩
  | .local _ .vmem, ⟨6, _⟩ => ⟨S8x6144, .f32⟩
  | _, _ => ⟨S2x20000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_values : Ref sig .tc := ⟨.hbm, 6, rfl⟩
abbrev main_call0_indices : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_call0_c : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_c_0 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_c_1 : Ref sig .tc := ⟨.hbm, 19, rfl⟩
abbrev main_call0_call0_c_2 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_c_3 : Ref sig .tc := ⟨.hbm, 27, rfl⟩
abbrev main_call0_call0_v11 : Ref sig .tc := ⟨.hbm, 28, rfl⟩
abbrev main_call0_call0_v12 : Ref sig .tc := ⟨.hbm, 29, rfl⟩
abbrev main_call0_call0_v13 : Ref sig .tc := ⟨.hbm, 30, rfl⟩
abbrev main_call0_call0_cst : Ref sig .tc := ⟨.hbm, 31, rfl⟩
abbrev main_call0_call0_v14 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_call1_c : Ref sig .tc := ⟨.hbm, 39, rfl⟩
abbrev main_call0_call1_v0 : Ref sig .tc := ⟨.hbm, 40, rfl⟩
abbrev main_call0_call1_v1 : Ref sig .tc := ⟨.hbm, 41, rfl⟩
abbrev main_call0_call1_c_0 : Ref sig .tc := ⟨.hbm, 42, rfl⟩
abbrev main_call0_call1_v2 : Ref sig .tc := ⟨.hbm, 43, rfl⟩
abbrev main_call0_call1_v3 : Ref sig .tc := ⟨.hbm, 44, rfl⟩
abbrev main_call0_call1_v4 : Ref sig .tc := ⟨.hbm, 45, rfl⟩
abbrev main_call0_call1_c_1 : Ref sig .tc := ⟨.hbm, 46, rfl⟩
abbrev main_call0_call1_c_2 : Ref sig .tc := ⟨.hbm, 47, rfl⟩
abbrev main_call0_call1_v5 : Ref sig .tc := ⟨.hbm, 48, rfl⟩
abbrev main_call0_call1_v6 : Ref sig .tc := ⟨.hbm, 49, rfl⟩
abbrev main_call0_call1_v7 : Ref sig .tc := ⟨.hbm, 50, rfl⟩
abbrev main_call0_call1_v8 : Ref sig .tc := ⟨.hbm, 51, rfl⟩
abbrev main_call0_call1_v9 : Ref sig .tc := ⟨.hbm, 52, rfl⟩
abbrev main_call0_call1_v10 : Ref sig .tc := ⟨.hbm, 53, rfl⟩
abbrev main_call0_call1_c_3 : Ref sig .tc := ⟨.hbm, 54, rfl⟩
abbrev main_call0_call1_v11 : Ref sig .tc := ⟨.hbm, 55, rfl⟩
abbrev main_call0_call1_v12 : Ref sig .tc := ⟨.hbm, 56, rfl⟩
abbrev main_call0_call1_v13 : Ref sig .tc := ⟨.hbm, 57, rfl⟩
abbrev main_call0_call1_cst : Ref sig .tc := ⟨.hbm, 58, rfl⟩
abbrev main_call0_call1_v14 : Ref sig .tc := ⟨.hbm, 59, rfl⟩
abbrev main_call0_v12 : Ref sig .tc := ⟨.hbm, 60, rfl⟩
abbrev main_call0_c : Ref sig .tc := ⟨.hbm, 61, rfl⟩
abbrev main_call0_call2_v0 : Ref sig .tc := ⟨.hbm, 62, rfl⟩
abbrev main_call0_v13 : Ref sig .tc := ⟨.hbm, 63, rfl⟩
abbrev main_call0_c_0 : Ref sig .tc := ⟨.hbm, 64, rfl⟩
abbrev main_call0_call3_v0 : Ref sig .tc := ⟨.hbm, 65, rfl⟩
abbrev main_call0_v14 : Ref sig .tc := ⟨.hbm, 66, rfl⟩
abbrev main_call0_v15 : Ref sig .tc := ⟨.hbm, 67, rfl⟩
abbrev main_call0_v16 : Ref sig .tc := ⟨.hbm, 68, rfl⟩
abbrev main_v0 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c12_i32 : BitVec 32 := 12#32
  let v85 : BitVec 32 := Scalar.addi c0_i32 c12_i32
  let c1_i32 : BitVec 32 := 1#32
  ⟨c0_i32, v85, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c512_i32 : BitVec 32 := 512#32
  let v102 : BitVec 32 := Scalar.muli arg5 c512_i32
  v102
def k0_off1 (k0_t1 : Fin k0_t1_loop.trips) : Fin 2 → Nat :=
  let c0_59 : Index := 0#32
  let c0_i32 : BitVec 32 := 0#32
  let c1_i32 : BitVec 32 := 1#32
  let arg5 : BitVec 32 := Scf.iv c0_i32 c1_i32 k0_t1
  let c512_i32 : BitVec 32 := 512#32
  let v102 : BitVec 32 := Scalar.muli arg5 c512_i32
  let v103 : BitVec 32 := v102
  let v104 : Index := Scalar.indexCast v103
  ![0, v104.toNat]
def k0_off2 (k0_t1 : Fin k0_t1_loop.trips) : Fin 2 → Nat :=
  let c1_60 : Index := 1#32
  let c0_i32 : BitVec 32 := 0#32
  let c1_i32 : BitVec 32 := 1#32
  let arg5 : BitVec 32 := Scf.iv c0_i32 c1_i32 k0_t1
  let c512_i32 : BitVec 32 := 512#32
  let v102 : BitVec 32 := Scalar.muli arg5 c512_i32
  let v103 : BitVec 32 := v102
  let v107 : Index := Scalar.indexCast v103
  ![1, v107.toNat]
def k0_off3 (k0_t1 : Fin k0_t1_loop.trips) : Fin 2 → Nat :=
  let c2_61 : Index := 2#32
  let c0_i32 : BitVec 32 := 0#32
  let c1_i32 : BitVec 32 := 1#32
  let arg5 : BitVec 32 := Scf.iv c0_i32 c1_i32 k0_t1
  let c512_i32 : BitVec 32 := 512#32
  let v102 : BitVec 32 := Scalar.muli arg5 c512_i32
  let v103 : BitVec 32 := v102
  let v110 : Index := Scalar.indexCast v103
  ![2, v110.toNat]
def k0_off4 (k0_t1 : Fin k0_t1_loop.trips) : Fin 2 → Nat :=
  let c3_62 : Index := 3#32
  let c0_i32 : BitVec 32 := 0#32
  let c1_i32 : BitVec 32 := 1#32
  let arg5 : BitVec 32 := Scf.iv c0_i32 c1_i32 k0_t1
  let c512_i32 : BitVec 32 := 512#32
  let v102 : BitVec 32 := Scalar.muli arg5 c512_i32
  let v103 : BitVec 32 := v102
  let v113 : Index := Scalar.indexCast v103
  ![3, v113.toNat]
def k0_off5 (k0_t1 : Fin k0_t1_loop.trips) : Fin 2 → Nat :=
  let c4_63 : Index := 4#32
  let c0_i32 : BitVec 32 := 0#32
  let c1_i32 : BitVec 32 := 1#32
  let arg5 : BitVec 32 := Scf.iv c0_i32 c1_i32 k0_t1
  let c512_i32 : BitVec 32 := 512#32
  let v102 : BitVec 32 := Scalar.muli arg5 c512_i32
  let v103 : BitVec 32 := v102
  let v116 : Index := Scalar.indexCast v103
  ![4, v116.toNat]
def k0_off6 (k0_t1 : Fin k0_t1_loop.trips) : Fin 2 → Nat :=
  let c5_64 : Index := 5#32
  let c0_i32 : BitVec 32 := 0#32
  let c1_i32 : BitVec 32 := 1#32
  let arg5 : BitVec 32 := Scf.iv c0_i32 c1_i32 k0_t1
  let c512_i32 : BitVec 32 := 512#32
  let v102 : BitVec 32 := Scalar.muli arg5 c512_i32
  let v103 : BitVec 32 := v102
  let v119 : Index := Scalar.indexCast v103
  ![5, v119.toNat]
def k0_off7 (k0_t1 : Fin k0_t1_loop.trips) : Fin 2 → Nat :=
  let c6 : Index := 6#32
  let c0_i32 : BitVec 32 := 0#32
  let c1_i32 : BitVec 32 := 1#32
  let arg5 : BitVec 32 := Scf.iv c0_i32 c1_i32 k0_t1
  let c512_i32 : BitVec 32 := 512#32
  let v102 : BitVec 32 := Scalar.muli arg5 c512_i32
  let v103 : BitVec 32 := v102
  let v177 : Index := Scalar.indexCast v103
  ![6, v177.toNat]
@[reducible] def k0_t2_loop (k0_t1 : Fin k0_t1_loop.trips) : Scf.Loop 32 :=
  let c0_i32 : BitVec 32 := 0#32
  let c1_i32 : BitVec 32 := 1#32
  let arg5 : BitVec 32 := Scf.iv c0_i32 c1_i32 k0_t1
  let c1_i32_71 : BitVec 32 := 1#32
  let v181 : BitVec 32 := Scalar.addi arg5 c1_i32_71
  let c12_i32_72 : BitVec 32 := 12#32
  let v182 : BitVec 32 := Scalar.subi c12_i32_72 v181
  let c1_i32_74 : BitVec 32 := 1#32
  let v184 : BitVec 32 := Scalar.divsi v182 c1_i32_74
  let v185 : BitVec 32 := Scalar.muli v184 c1_i32_74
  let v186 : BitVec 32 := Scalar.addi v181 v185
  let c1_i32_75 : BitVec 32 := 1#32
  ⟨v181, v186, c1_i32_75⟩
def k0_mult2 (k0_t1 : Fin k0_t1_loop.trips) (k0_t2 : Fin (k0_t2_loop k0_t1).trips) : BitVec 32 :=
  let c0_i32 : BitVec 32 := 0#32
  let c1_i32 : BitVec 32 := 1#32
  let arg5 : BitVec 32 := Scf.iv c0_i32 c1_i32 k0_t1
  let c1_i32_71 : BitVec 32 := 1#32
  let v181 : BitVec 32 := Scalar.addi arg5 c1_i32_71
  let c1_i32_75 : BitVec 32 := 1#32
  let arg6 : BitVec 32 := Scf.iv v181 c1_i32_75 k0_t2
  let c512_i32_77 : BitVec 32 := 512#32
  let v189 : BitVec 32 := Scalar.muli arg6 c512_i32_77
  v189
def k0_off8 (k0_t1 : Fin k0_t1_loop.trips) (k0_t2 : Fin (k0_t2_loop k0_t1).trips) : Fin 2 → Nat :=
  let c0_78 : Index := 0#32
  let c0_i32 : BitVec 32 := 0#32
  let c1_i32 : BitVec 32 := 1#32
  let arg5 : BitVec 32 := Scf.iv c0_i32 c1_i32 k0_t1
  let c1_i32_71 : BitVec 32 := 1#32
  let v181 : BitVec 32 := Scalar.addi arg5 c1_i32_71
  let c1_i32_75 : BitVec 32 := 1#32
  let arg6 : BitVec 32 := Scf.iv v181 c1_i32_75 k0_t2
  let c512_i32_77 : BitVec 32 := 512#32
  let v189 : BitVec 32 := Scalar.muli arg6 c512_i32_77
  let v190 : BitVec 32 := v189
  let v191 : Index := Scalar.indexCast v190
  ![0, v191.toNat]
def k0_off9 (k0_t1 : Fin k0_t1_loop.trips) (k0_t2 : Fin (k0_t2_loop k0_t1).trips) : Fin 2 → Nat :=
  let c1_79 : Index := 1#32
  let c0_i32 : BitVec 32 := 0#32
  let c1_i32 : BitVec 32 := 1#32
  let arg5 : BitVec 32 := Scf.iv c0_i32 c1_i32 k0_t1
  let c1_i32_71 : BitVec 32 := 1#32
  let v181 : BitVec 32 := Scalar.addi arg5 c1_i32_71
  let c1_i32_75 : BitVec 32 := 1#32
  let arg6 : BitVec 32 := Scf.iv v181 c1_i32_75 k0_t2
  let c512_i32_77 : BitVec 32 := 512#32
  let v189 : BitVec 32 := Scalar.muli arg6 c512_i32_77
  let v190 : BitVec 32 := v189
  let v194 : Index := Scalar.indexCast v190
  ![1, v194.toNat]
def k0_off10 (k0_t1 : Fin k0_t1_loop.trips) (k0_t2 : Fin (k0_t2_loop k0_t1).trips) : Fin 2 → Nat :=
  let c2_80 : Index := 2#32
  let c0_i32 : BitVec 32 := 0#32
  let c1_i32 : BitVec 32 := 1#32
  let arg5 : BitVec 32 := Scf.iv c0_i32 c1_i32 k0_t1
  let c1_i32_71 : BitVec 32 := 1#32
  let v181 : BitVec 32 := Scalar.addi arg5 c1_i32_71
  let c1_i32_75 : BitVec 32 := 1#32
  let arg6 : BitVec 32 := Scf.iv v181 c1_i32_75 k0_t2
  let c512_i32_77 : BitVec 32 := 512#32
  let v189 : BitVec 32 := Scalar.muli arg6 c512_i32_77
  let v190 : BitVec 32 := v189
  let v197 : Index := Scalar.indexCast v190
  ![2, v197.toNat]
def k0_off11 (k0_t1 : Fin k0_t1_loop.trips) (k0_t2 : Fin (k0_t2_loop k0_t1).trips) : Fin 2 → Nat :=
  let c3_81 : Index := 3#32
  let c0_i32 : BitVec 32 := 0#32
  let c1_i32 : BitVec 32 := 1#32
  let arg5 : BitVec 32 := Scf.iv c0_i32 c1_i32 k0_t1
  let c1_i32_71 : BitVec 32 := 1#32
  let v181 : BitVec 32 := Scalar.addi arg5 c1_i32_71
  let c1_i32_75 : BitVec 32 := 1#32
  let arg6 : BitVec 32 := Scf.iv v181 c1_i32_75 k0_t2
  let c512_i32_77 : BitVec 32 := 512#32
  let v189 : BitVec 32 := Scalar.muli arg6 c512_i32_77
  let v190 : BitVec 32 := v189
  let v200 : Index := Scalar.indexCast v190
  ![3, v200.toNat]
def k0_off12 (k0_t1 : Fin k0_t1_loop.trips) (k0_t2 : Fin (k0_t2_loop k0_t1).trips) : Fin 2 → Nat :=
  let c4_82 : Index := 4#32
  let c0_i32 : BitVec 32 := 0#32
  let c1_i32 : BitVec 32 := 1#32
  let arg5 : BitVec 32 := Scf.iv c0_i32 c1_i32 k0_t1
  let c1_i32_71 : BitVec 32 := 1#32
  let v181 : BitVec 32 := Scalar.addi arg5 c1_i32_71
  let c1_i32_75 : BitVec 32 := 1#32
  let arg6 : BitVec 32 := Scf.iv v181 c1_i32_75 k0_t2
  let c512_i32_77 : BitVec 32 := 512#32
  let v189 : BitVec 32 := Scalar.muli arg6 c512_i32_77
  let v190 : BitVec 32 := v189
  let v203 : Index := Scalar.indexCast v190
  ![4, v203.toNat]
def k0_off13 (k0_t1 : Fin k0_t1_loop.trips) (k0_t2 : Fin (k0_t2_loop k0_t1).trips) : Fin 2 → Nat :=
  let c5_89 : Index := 5#32
  let c0_i32 : BitVec 32 := 0#32
  let c1_i32 : BitVec 32 := 1#32
  let arg5 : BitVec 32 := Scf.iv c0_i32 c1_i32 k0_t1
  let c1_i32_71 : BitVec 32 := 1#32
  let v181 : BitVec 32 := Scalar.addi arg5 c1_i32_71
  let c1_i32_75 : BitVec 32 := 1#32
  let arg6 : BitVec 32 := Scf.iv v181 c1_i32_75 k0_t2
  let c512_i32_77 : BitVec 32 := 512#32
  let v189 : BitVec 32 := Scalar.muli arg6 c512_i32_77
  let v190 : BitVec 32 := v189
  let v252 : Index := Scalar.indexCast v190
  ![5, v252.toNat]
@[reducible] def k0_t3_loop (k0_t1 : Fin k0_t1_loop.trips) : Scf.Loop 32 :=
  let c0_i32 : BitVec 32 := 0#32
  let c1_i32 : BitVec 32 := 1#32
  let arg5 : BitVec 32 := Scf.iv c0_i32 c1_i32 k0_t1
  let c1_i32_71 : BitVec 32 := 1#32
  let v181 : BitVec 32 := Scalar.addi arg5 c1_i32_71
  let c12_i32_72 : BitVec 32 := 12#32
  let v182 : BitVec 32 := Scalar.subi c12_i32_72 v181
  let c1_i32_74 : BitVec 32 := 1#32
  let v184 : BitVec 32 := Scalar.divsi v182 c1_i32_74
  let v185 : BitVec 32 := Scalar.muli v184 c1_i32_74
  let v186 : BitVec 32 := Scalar.addi v181 v185
  let v183 : BitVec 32 := Scalar.addi v181 v182
  let c1_i32_76 : BitVec 32 := 1#32
  ⟨v186, v183, c1_i32_76⟩
def k0_mult3 (k0_t1 : Fin k0_t1_loop.trips) (k0_t3 : Fin (k0_t3_loop k0_t1).trips) : BitVec 32 :=
  let c0_i32 : BitVec 32 := 0#32
  let c1_i32 : BitVec 32 := 1#32
  let arg5 : BitVec 32 := Scf.iv c0_i32 c1_i32 k0_t1
  let c1_i32_71 : BitVec 32 := 1#32
  let v181 : BitVec 32 := Scalar.addi arg5 c1_i32_71
  let c12_i32_72 : BitVec 32 := 12#32
  let v182 : BitVec 32 := Scalar.subi c12_i32_72 v181
  let c1_i32_74 : BitVec 32 := 1#32
  let v184 : BitVec 32 := Scalar.divsi v182 c1_i32_74
  let v185 : BitVec 32 := Scalar.muli v184 c1_i32_74
  let v186 : BitVec 32 := Scalar.addi v181 v185
  let c1_i32_76 : BitVec 32 := 1#32
  let arg6 : BitVec 32 := Scf.iv v186 c1_i32_76 k0_t3
  let c512_i32_77 : BitVec 32 := 512#32
  let v189 : BitVec 32 := Scalar.muli arg6 c512_i32_77
  v189
def k0_off14 (k0_t1 : Fin k0_t1_loop.trips) (k0_t3 : Fin (k0_t3_loop k0_t1).trips) : Fin 2 → Nat :=
  let c0_78 : Index := 0#32
  let c0_i32 : BitVec 32 := 0#32
  let c1_i32 : BitVec 32 := 1#32
  let arg5 : BitVec 32 := Scf.iv c0_i32 c1_i32 k0_t1
  let c1_i32_71 : BitVec 32 := 1#32
  let v181 : BitVec 32 := Scalar.addi arg5 c1_i32_71
  let c12_i32_72 : BitVec 32 := 12#32
  let v182 : BitVec 32 := Scalar.subi c12_i32_72 v181
  let c1_i32_74 : BitVec 32 := 1#32
  let v184 : BitVec 32 := Scalar.divsi v182 c1_i32_74
  let v185 : BitVec 32 := Scalar.muli v184 c1_i32_74
  let v186 : BitVec 32 := Scalar.addi v181 v185
  let c1_i32_76 : BitVec 32 := 1#32
  let arg6 : BitVec 32 := Scf.iv v186 c1_i32_76 k0_t3
  let c512_i32_77 : BitVec 32 := 512#32
  let v189 : BitVec 32 := Scalar.muli arg6 c512_i32_77
  let v190 : BitVec 32 := v189
  let v191 : Index := Scalar.indexCast v190
  ![0, v191.toNat]
def k0_off15 (k0_t1 : Fin k0_t1_loop.trips) (k0_t3 : Fin (k0_t3_loop k0_t1).trips) : Fin 2 → Nat :=
  let c1_79 : Index := 1#32
  let c0_i32 : BitVec 32 := 0#32
  let c1_i32 : BitVec 32 := 1#32
  let arg5 : BitVec 32 := Scf.iv c0_i32 c1_i32 k0_t1
  let c1_i32_71 : BitVec 32 := 1#32
  let v181 : BitVec 32 := Scalar.addi arg5 c1_i32_71
  let c12_i32_72 : BitVec 32 := 12#32
  let v182 : BitVec 32 := Scalar.subi c12_i32_72 v181
  let c1_i32_74 : BitVec 32 := 1#32
  let v184 : BitVec 32 := Scalar.divsi v182 c1_i32_74
  let v185 : BitVec 32 := Scalar.muli v184 c1_i32_74
  let v186 : BitVec 32 := Scalar.addi v181 v185
  let c1_i32_76 : BitVec 32 := 1#32
  let arg6 : BitVec 32 := Scf.iv v186 c1_i32_76 k0_t3
  let c512_i32_77 : BitVec 32 := 512#32
  let v189 : BitVec 32 := Scalar.muli arg6 c512_i32_77
  let v190 : BitVec 32 := v189
  let v194 : Index := Scalar.indexCast v190
  ![1, v194.toNat]
def k0_off16 (k0_t1 : Fin k0_t1_loop.trips) (k0_t3 : Fin (k0_t3_loop k0_t1).trips) : Fin 2 → Nat :=
  let c2_80 : Index := 2#32
  let c0_i32 : BitVec 32 := 0#32
  let c1_i32 : BitVec 32 := 1#32
  let arg5 : BitVec 32 := Scf.iv c0_i32 c1_i32 k0_t1
  let c1_i32_71 : BitVec 32 := 1#32
  let v181 : BitVec 32 := Scalar.addi arg5 c1_i32_71
  let c12_i32_72 : BitVec 32 := 12#32
  let v182 : BitVec 32 := Scalar.subi c12_i32_72 v181
  let c1_i32_74 : BitVec 32 := 1#32
  let v184 : BitVec 32 := Scalar.divsi v182 c1_i32_74
  let v185 : BitVec 32 := Scalar.muli v184 c1_i32_74
  let v186 : BitVec 32 := Scalar.addi v181 v185
  let c1_i32_76 : BitVec 32 := 1#32
  let arg6 : BitVec 32 := Scf.iv v186 c1_i32_76 k0_t3
  let c512_i32_77 : BitVec 32 := 512#32
  let v189 : BitVec 32 := Scalar.muli arg6 c512_i32_77
  let v190 : BitVec 32 := v189
  let v197 : Index := Scalar.indexCast v190
  ![2, v197.toNat]
def k0_off17 (k0_t1 : Fin k0_t1_loop.trips) (k0_t3 : Fin (k0_t3_loop k0_t1).trips) : Fin 2 → Nat :=
  let c3_81 : Index := 3#32
  let c0_i32 : BitVec 32 := 0#32
  let c1_i32 : BitVec 32 := 1#32
  let arg5 : BitVec 32 := Scf.iv c0_i32 c1_i32 k0_t1
  let c1_i32_71 : BitVec 32 := 1#32
  let v181 : BitVec 32 := Scalar.addi arg5 c1_i32_71
  let c12_i32_72 : BitVec 32 := 12#32
  let v182 : BitVec 32 := Scalar.subi c12_i32_72 v181
  let c1_i32_74 : BitVec 32 := 1#32
  let v184 : BitVec 32 := Scalar.divsi v182 c1_i32_74
  let v185 : BitVec 32 := Scalar.muli v184 c1_i32_74
  let v186 : BitVec 32 := Scalar.addi v181 v185
  let c1_i32_76 : BitVec 32 := 1#32
  let arg6 : BitVec 32 := Scf.iv v186 c1_i32_76 k0_t3
  let c512_i32_77 : BitVec 32 := 512#32
  let v189 : BitVec 32 := Scalar.muli arg6 c512_i32_77
  let v190 : BitVec 32 := v189
  let v200 : Index := Scalar.indexCast v190
  ![3, v200.toNat]
def k0_off18 (k0_t1 : Fin k0_t1_loop.trips) (k0_t3 : Fin (k0_t3_loop k0_t1).trips) : Fin 2 → Nat :=
  let c4_82 : Index := 4#32
  let c0_i32 : BitVec 32 := 0#32
  let c1_i32 : BitVec 32 := 1#32
  let arg5 : BitVec 32 := Scf.iv c0_i32 c1_i32 k0_t1
  let c1_i32_71 : BitVec 32 := 1#32
  let v181 : BitVec 32 := Scalar.addi arg5 c1_i32_71
  let c12_i32_72 : BitVec 32 := 12#32
  let v182 : BitVec 32 := Scalar.subi c12_i32_72 v181
  let c1_i32_74 : BitVec 32 := 1#32
  let v184 : BitVec 32 := Scalar.divsi v182 c1_i32_74
  let v185 : BitVec 32 := Scalar.muli v184 c1_i32_74
  let v186 : BitVec 32 := Scalar.addi v181 v185
  let c1_i32_76 : BitVec 32 := 1#32
  let arg6 : BitVec 32 := Scf.iv v186 c1_i32_76 k0_t3
  let c512_i32_77 : BitVec 32 := 512#32
  let v189 : BitVec 32 := Scalar.muli arg6 c512_i32_77
  let v190 : BitVec 32 := v189
  let v203 : Index := Scalar.indexCast v190
  ![4, v203.toNat]
def k0_off19 (k0_t1 : Fin k0_t1_loop.trips) (k0_t3 : Fin (k0_t3_loop k0_t1).trips) : Fin 2 → Nat :=
  let c5_89 : Index := 5#32
  let c0_i32 : BitVec 32 := 0#32
  let c1_i32 : BitVec 32 := 1#32
  let arg5 : BitVec 32 := Scf.iv c0_i32 c1_i32 k0_t1
  let c1_i32_71 : BitVec 32 := 1#32
  let v181 : BitVec 32 := Scalar.addi arg5 c1_i32_71
  let c12_i32_72 : BitVec 32 := 12#32
  let v182 : BitVec 32 := Scalar.subi c12_i32_72 v181
  let c1_i32_74 : BitVec 32 := 1#32
  let v184 : BitVec 32 := Scalar.divsi v182 c1_i32_74
  let v185 : BitVec 32 := Scalar.muli v184 c1_i32_74
  let v186 : BitVec 32 := Scalar.addi v181 v185
  let c1_i32_76 : BitVec 32 := 1#32
  let arg6 : BitVec 32 := Scf.iv v186 c1_i32_76 k0_t3
  let c512_i32_77 : BitVec 32 := 512#32
  let v189 : BitVec 32 := Scalar.muli arg6 c512_i32_77
  let v190 : BitVec 32 := v189
  let v252 : Index := Scalar.indexCast v190
  ![5, v252.toNat]
@[reducible] def k0_t4_loop : Scf.Loop 32 :=
  let c0_i32_46 : BitVec 32 := 0#32
  let c12_i32_47 : BitVec 32 := 12#32
  let v89 : BitVec 32 := Scalar.addi c0_i32_46 c12_i32_47
  let c1_i32_48 : BitVec 32 := 1#32
  ⟨c0_i32_46, v89, c1_i32_48⟩
def k0_mult4 (k0_t4 : Fin k0_t4_loop.trips) : BitVec 32 :=
  let c0_i32_46 : BitVec 32 := 0#32
  let c1_i32_48 : BitVec 32 := 1#32
  let arg5 : BitVec 32 := Scf.iv c0_i32_46 c1_i32_48 k0_t4
  let c512_i32 : BitVec 32 := 512#32
  let v102 : BitVec 32 := Scalar.muli arg5 c512_i32
  v102
def k0_off20 (k0_t4 : Fin k0_t4_loop.trips) : Fin 2 → Nat :=
  let c6 : Index := 6#32
  let c0_i32_46 : BitVec 32 := 0#32
  let c1_i32_48 : BitVec 32 := 1#32
  let arg5 : BitVec 32 := Scf.iv c0_i32_46 c1_i32_48 k0_t4
  let c512_i32 : BitVec 32 := 512#32
  let v102 : BitVec 32 := Scalar.muli arg5 c512_i32
  let v103 : BitVec 32 := v102
  let v104 : Index := Scalar.indexCast v103
  ![6, v104.toNat]
def k0_off21 (k0_t4 : Fin k0_t4_loop.trips) : Fin 2 → Nat :=
  let c7 : Index := 7#32
  let c0_i32_46 : BitVec 32 := 0#32
  let c1_i32_48 : BitVec 32 := 1#32
  let arg5 : BitVec 32 := Scf.iv c0_i32_46 c1_i32_48 k0_t4
  let c512_i32 : BitVec 32 := 512#32
  let v102 : BitVec 32 := Scalar.muli arg5 c512_i32
  let v103 : BitVec 32 := v102
  let v112 : Index := Scalar.indexCast v103
  ![7, v112.toNat]
@[reducible] def k0_t5_loop : Scf.Loop 32 :=
  let c0_i32_52 : BitVec 32 := 0#32
  let c12_i32_53 : BitVec 32 := 12#32
  let v96 : BitVec 32 := Scalar.addi c0_i32_52 c12_i32_53
  let c1_i32_54 : BitVec 32 := 1#32
  ⟨c0_i32_52, v96, c1_i32_54⟩
def k0_mult5 (k0_t5 : Fin k0_t5_loop.trips) : BitVec 32 :=
  let c0_i32_52 : BitVec 32 := 0#32
  let c1_i32_54 : BitVec 32 := 1#32
  let arg5 : BitVec 32 := Scf.iv c0_i32_52 c1_i32_54 k0_t5
  let c512_i32 : BitVec 32 := 512#32
  let v102 : BitVec 32 := Scalar.muli arg5 c512_i32
  v102
def k0_off22 (k0_t5 : Fin k0_t5_loop.trips) : Fin 2 → Nat :=
  let c7 : Index := 7#32
  let c0_i32_52 : BitVec 32 := 0#32
  let c1_i32_54 : BitVec 32 := 1#32
  let arg5 : BitVec 32 := Scf.iv c0_i32_52 c1_i32_54 k0_t5
  let c512_i32 : BitVec 32 := 512#32
  let v102 : BitVec 32 := Scalar.muli arg5 c512_i32
  let v103 : BitVec 32 := v102
  let v104 : Index := Scalar.indexCast v103
  ![7, v104.toNat]
def k0_off23 (k0_t5 : Fin k0_t5_loop.trips) : Fin 2 → Nat :=
  let c6 : Index := 6#32
  let c0_i32_52 : BitVec 32 := 0#32
  let c1_i32_54 : BitVec 32 := 1#32
  let arg5 : BitVec 32 := Scf.iv c0_i32_52 c1_i32_54 k0_t5
  let c512_i32 : BitVec 32 := 512#32
  let v102 : BitVec 32 := Scalar.muli arg5 c512_i32
  let v103 : BitVec 32 := v102
  let v108 : Index := Scalar.indexCast v103
  ![6, v108.toNat]
def k0_off24 (k0_t5 : Fin k0_t5_loop.trips) : Fin 2 → Nat :=
  let c0_59 : Index := 0#32
  let c0_i32_52 : BitVec 32 := 0#32
  let c1_i32_54 : BitVec 32 := 1#32
  let arg5 : BitVec 32 := Scf.iv c0_i32_52 c1_i32_54 k0_t5
  let c512_i32 : BitVec 32 := 512#32
  let v102 : BitVec 32 := Scalar.muli arg5 c512_i32
  let v103 : BitVec 32 := v102
  let v118 : Index := Scalar.indexCast v103
  ![0, v118.toNat]
def k0_off25 (k0_t5 : Fin k0_t5_loop.trips) : Fin 2 → Nat :=
  let c1_60 : Index := 1#32
  let c0_i32_52 : BitVec 32 := 0#32
  let c1_i32_54 : BitVec 32 := 1#32
  let arg5 : BitVec 32 := Scf.iv c0_i32_52 c1_i32_54 k0_t5
  let c512_i32 : BitVec 32 := 512#32
  let v102 : BitVec 32 := Scalar.muli arg5 c512_i32
  let v103 : BitVec 32 := v102
  let v122 : Index := Scalar.indexCast v103
  ![1, v122.toNat]
def k0_off26 (k0_t5 : Fin k0_t5_loop.trips) : Fin 2 → Nat :=
  let c2_61 : Index := 2#32
  let c0_i32_52 : BitVec 32 := 0#32
  let c1_i32_54 : BitVec 32 := 1#32
  let arg5 : BitVec 32 := Scf.iv c0_i32_52 c1_i32_54 k0_t5
  let c512_i32 : BitVec 32 := 512#32
  let v102 : BitVec 32 := Scalar.muli arg5 c512_i32
  let v103 : BitVec 32 := v102
  let v126 : Index := Scalar.indexCast v103
  ![2, v126.toNat]
def k0_off27 (k0_t5 : Fin k0_t5_loop.trips) : Fin 2 → Nat :=
  let c3_62 : Index := 3#32
  let c0_i32_52 : BitVec 32 := 0#32
  let c1_i32_54 : BitVec 32 := 1#32
  let arg5 : BitVec 32 := Scf.iv c0_i32_52 c1_i32_54 k0_t5
  let c512_i32 : BitVec 32 := 512#32
  let v102 : BitVec 32 := Scalar.muli arg5 c512_i32
  let v103 : BitVec 32 := v102
  let v130 : Index := Scalar.indexCast v103
  ![3, v130.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S2x20000x2 : Shape := ⟨3, ![2, 20000, 2]⟩
abbrev S2x20000x4 : Shape := ⟨3, ![2, 20000, 4]⟩
abbrev S4 : Shape := ⟨1, ![4]⟩
abbrev S2x20000x1 : Shape := ⟨3, ![2, 20000, 1]⟩
abbrev S2x20000 : Shape := ⟨2, ![2, 20000]⟩
abbrev S1x1x4 : Shape := ⟨3, ![1, 1, 4]⟩
abbrev S2x6000 : Shape := ⟨2, ![2, 6000]⟩
abbrev S_ : Shape := ⟨0, ![]⟩
abbrev S2x6000x1 : Shape := ⟨3, ![2, 6000, 1]⟩
abbrev S2x6000x4 : Shape := ⟨3, ![2, 6000, 4]⟩
abbrev S2x1x6000 : Shape := ⟨3, ![2, 1, 6000]⟩
abbrev S2x6000x6000 : Shape := ⟨3, ![2, 6000, 6000]⟩
abbrev S2x1000 : Shape := ⟨2, ![2, 1000]⟩
abbrev S6000 : Shape := ⟨1, ![6000]⟩
abbrev S1x6000 : Shape := ⟨2, ![1, 6000]⟩
abbrev S2 : Shape := ⟨1, ![2]⟩
abbrev S2x1 : Shape := ⟨2, ![2, 1]⟩
abbrev S2x1x1 : Shape := ⟨3, ![2, 1, 1]⟩
abbrev S1 : Shape := ⟨1, ![1]⟩
abbrev S2x1000x1 : Shape := ⟨3, ![2, 1000, 1]⟩
abbrev S2x1000x4 : Shape := ⟨3, ![2, 1000, 4]⟩

abbrev nBuf : Space → Nat
  | .hbm => 249
  | .vmem => 0
  | .smem => 0
  | _ => 0

abbrev hbmTy0_0 (i : Nat) : BufTy := match i % 128 with
  | 0 => ⟨S2x20000x2, .f32⟩
  | 1 => ⟨S2x20000x4, .f32⟩
  | 2 => ⟨S2x20000x4, .f32⟩
  | 3 => ⟨S4, .f32⟩
  | 4 => ⟨S2x20000x1, .f32⟩
  | 5 => ⟨S2x20000, .f32⟩
  | 6 => ⟨S1x1x4, .f32⟩
  | 7 => ⟨S2x20000x4, .f32⟩
  | 8 => ⟨S2x20000x4, .f32⟩
  | 9 => ⟨S2x6000, .f32⟩
  | 10 => ⟨S2x6000, .i32⟩
  | 11 => ⟨S_, .i32⟩
  | 12 => ⟨S2x6000, .i32⟩
  | 13 => ⟨S2x6000, .i1⟩
  | 14 => ⟨S_, .i32⟩
  | 15 => ⟨S2x6000, .i32⟩
  | 16 => ⟨S2x6000, .i32⟩
  | 17 => ⟨S2x6000, .i32⟩
  | 18 => ⟨S2x6000x1, .i32⟩
  | 19 => ⟨S2x6000x4, .f32⟩
  | 20 => ⟨S_, .i32⟩
  | 21 => ⟨S2x6000, .i32⟩
  | 22 => ⟨S2x6000, .i1⟩
  | 23 => ⟨S_, .i32⟩
  | 24 => ⟨S2x6000, .i32⟩
  | 25 => ⟨S2x6000, .i32⟩
  | 26 => ⟨S2x6000, .i32⟩
  | 27 => ⟨S2x6000x1, .i32⟩
  | 28 => ⟨S2x6000x4, .f32⟩
  | 29 => ⟨S2x6000x1, .f32⟩
  | 30 => ⟨S2x6000, .f32⟩
  | 31 => ⟨S2x6000x1, .f32⟩
  | 32 => ⟨S2x6000, .f32⟩
  | 33 => ⟨S2x6000x1, .f32⟩
  | 34 => ⟨S2x6000, .f32⟩
  | 35 => ⟨S2x6000x1, .f32⟩
  | 36 => ⟨S2x6000, .f32⟩
  | 37 => ⟨S2x6000, .f32⟩
  | 38 => ⟨S2x6000, .f32⟩
  | 39 => ⟨S_, .f32⟩
  | 40 => ⟨S2x6000, .f32⟩
  | 41 => ⟨S2x6000, .f32⟩
  | 42 => ⟨S2x6000, .f32⟩
  | 43 => ⟨S_, .f32⟩
  | 44 => ⟨S2x6000, .f32⟩
  | 45 => ⟨S2x6000, .f32⟩
  | 46 => ⟨S2x6000, .f32⟩
  | 47 => ⟨S2x6000x1, .f32⟩
  | 48 => ⟨S2x6000, .f32⟩
  | 49 => ⟨S2x6000, .f32⟩
  | 50 => ⟨S2x6000, .f32⟩
  | 51 => ⟨S2x6000x1, .f32⟩
  | 52 => ⟨S2x6000, .f32⟩
  | 53 => ⟨S2x6000, .f32⟩
  | 54 => ⟨S2x6000, .f32⟩
  | 55 => ⟨S2x6000x1, .f32⟩
  | 56 => ⟨S2x6000, .f32⟩
  | 57 => ⟨S2x6000, .f32⟩
  | 58 => ⟨S2x6000, .f32⟩
  | 59 => ⟨S2x6000x1, .f32⟩
  | 60 => ⟨S2x6000, .f32⟩
  | 61 => ⟨S2x6000, .f32⟩
  | 62 => ⟨S2x6000, .f32⟩
  | 63 => ⟨S_, .f32⟩
  | 64 => ⟨S2x6000, .f32⟩
  | 65 => ⟨S2x6000, .f32⟩
  | 66 => ⟨S2x6000, .f32⟩
  | 67 => ⟨S_, .f32⟩
  | 68 => ⟨S2x6000, .f32⟩
  | 69 => ⟨S2x6000, .f32⟩
  | 70 => ⟨S2x6000, .f32⟩
  | 71 => ⟨S2x6000, .f32⟩
  | 72 => ⟨S2x6000, .f32⟩
  | 73 => ⟨S2x6000x1, .f32⟩
  | 74 => ⟨S2x6000x1, .f32⟩
  | 75 => ⟨S2x6000x1, .f32⟩
  | 76 => ⟨S2x6000x1, .f32⟩
  | 77 => ⟨S2x6000x4, .f32⟩
  | 78 => ⟨S_, .f32⟩
  | 79 => ⟨S_, .f32⟩
  | 80 => ⟨S_, .f32⟩
  | 81 => ⟨S2x6000x4, .f32⟩
  | 82 => ⟨S2x6000x4, .f32⟩
  | 83 => ⟨S_, .f32⟩
  | 84 => ⟨S2x6000x4, .f32⟩
  | 85 => ⟨S2x6000x4, .f32⟩
  | 86 => ⟨S2x6000, .f32⟩
  | 87 => ⟨S2x6000, .i32⟩
  | 88 => ⟨S2x6000, .f32⟩
  | 89 => ⟨S2x6000, .i32⟩
  | 90 => ⟨S_, .i32⟩
  | 91 => ⟨S2x6000, .i32⟩
  | 92 => ⟨S2x6000, .i1⟩
  | 93 => ⟨S_, .i32⟩
  | 94 => ⟨S2x6000, .i32⟩
  | 95 => ⟨S2x6000, .i32⟩
  | 96 => ⟨S2x6000, .i32⟩
  | 97 => ⟨S2x6000x1, .i32⟩
  | 98 => ⟨S2x6000x4, .f32⟩
  | 99 => ⟨S2x6000x1, .f32⟩
  | 100 => ⟨S2x6000, .f32⟩
  | 101 => ⟨S2x6000x1, .f32⟩
  | 102 => ⟨S2x6000, .f32⟩
  | 103 => ⟨S2x6000x1, .f32⟩
  | 104 => ⟨S2x6000, .f32⟩
  | 105 => ⟨S2x6000x1, .f32⟩
  | 106 => ⟨S2x6000, .f32⟩
  | 107 => ⟨S2x6000, .f32⟩
  | 108 => ⟨S_, .f32⟩
  | 109 => ⟨S2x6000, .f32⟩
  | 110 => ⟨S2x6000, .f32⟩
  | 111 => ⟨S2x6000, .f32⟩
  | 112 => ⟨S_, .f32⟩
  | 113 => ⟨S2x6000, .f32⟩
  | 114 => ⟨S2x6000, .f32⟩
  | 115 => ⟨S2x6000, .f32⟩
  | 116 => ⟨S2x6000x1, .f32⟩
  | 117 => ⟨S2x1x6000, .f32⟩
  | 118 => ⟨S2x6000x6000, .f32⟩
  | 119 => ⟨S2x6000x6000, .f32⟩
  | 120 => ⟨S2x6000x6000, .f32⟩
  | 121 => ⟨S2x6000x1, .f32⟩
  | 122 => ⟨S2x1x6000, .f32⟩
  | 123 => ⟨S2x6000x6000, .f32⟩
  | 124 => ⟨S2x6000x6000, .f32⟩
  | 125 => ⟨S2x6000x6000, .f32⟩
  | 126 => ⟨S2x6000x1, .f32⟩
  | 127 => ⟨S2x1x6000, .f32⟩
  | _ => ⟨S2x20000x2, .f32⟩

abbrev hbmTy0_1 (i : Nat) : BufTy := match i % 128 with
  | 0 => ⟨S2x6000x6000, .f32⟩
  | 1 => ⟨S2x6000x6000, .f32⟩
  | 2 => ⟨S2x6000x6000, .f32⟩
  | 3 => ⟨S2x6000x1, .f32⟩
  | 4 => ⟨S2x1x6000, .f32⟩
  | 5 => ⟨S2x6000x6000, .f32⟩
  | 6 => ⟨S2x6000x6000, .f32⟩
  | 7 => ⟨S2x6000x6000, .f32⟩
  | 8 => ⟨S2x6000x6000, .f32⟩
  | 9 => ⟨S_, .f32⟩
  | 10 => ⟨S2x6000x6000, .f32⟩
  | 11 => ⟨S2x6000x6000, .f32⟩
  | 12 => ⟨S2x6000x6000, .f32⟩
  | 13 => ⟨S_, .f32⟩
  | 14 => ⟨S2x6000x6000, .f32⟩
  | 15 => ⟨S2x6000x6000, .f32⟩
  | 16 => ⟨S2x6000x6000, .f32⟩
  | 17 => ⟨S2x6000x1, .f32⟩
  | 18 => ⟨S2x1x6000, .f32⟩
  | 19 => ⟨S2x6000x6000, .f32⟩
  | 20 => ⟨S2x6000x6000, .f32⟩
  | 21 => ⟨S2x6000x6000, .f32⟩
  | 22 => ⟨S2x6000x6000, .f32⟩
  | 23 => ⟨S_, .f32⟩
  | 24 => ⟨S2x6000x6000, .f32⟩
  | 25 => ⟨S2x6000x6000, .f32⟩
  | 26 => ⟨S2x6000x6000, .f32⟩
  | 27 => ⟨S_, .i1⟩
  | 28 => ⟨S2x6000, .i1⟩
  | 29 => ⟨S_, .i32⟩
  | 30 => ⟨S2x1000, .i32⟩
  | 31 => ⟨S_, .i32⟩
  | 32 => ⟨S_, .i32⟩
  | 33 => ⟨S2x6000x6000, .f32⟩
  | 34 => ⟨S_, .i32⟩
  | 35 => ⟨S_, .i32⟩
  | 36 => ⟨S2x6000, .i1⟩
  | 37 => ⟨S2x1000, .i32⟩
  | 38 => ⟨S_, .i32⟩
  | 39 => ⟨S_, .i1⟩
  | 40 => ⟨S_, .i32⟩
  | 41 => ⟨S_, .i32⟩
  | 42 => ⟨S6000, .i32⟩
  | 43 => ⟨S1x6000, .i32⟩
  | 44 => ⟨S_, .i32⟩
  | 45 => ⟨S_, .i32⟩
  | 46 => ⟨S2x6000, .i32⟩
  | 47 => ⟨S2x6000, .i32⟩
  | 48 => ⟨S2x6000, .i32⟩
  | 49 => ⟨S_, .i32⟩
  | 50 => ⟨S2, .i32⟩
  | 51 => ⟨S2x1, .i32⟩
  | 52 => ⟨S_, .i32⟩
  | 53 => ⟨S2x1, .i32⟩
  | 54 => ⟨S2x1, .i1⟩
  | 55 => ⟨S_, .i32⟩
  | 56 => ⟨S2x1, .i32⟩
  | 57 => ⟨S2x1, .i32⟩
  | 58 => ⟨S2x1, .i32⟩
  | 59 => ⟨S2x1x1, .i32⟩
  | 60 => ⟨S2x1, .i1⟩
  | 61 => ⟨S2, .i1⟩
  | 62 => ⟨S_, .i32⟩
  | 63 => ⟨S2, .i32⟩
  | 64 => ⟨S2, .i32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S1, .i32⟩
  | 72 => ⟨S2x1000, .i32⟩
  | 73 => ⟨S2x1, .i32⟩
  | 74 => ⟨S_, .i32⟩
  | 75 => ⟨S2x1, .i32⟩
  | 76 => ⟨S2x1, .i1⟩
  | 77 => ⟨S_, .i32⟩
  | 78 => ⟨S2x1, .i32⟩
  | 79 => ⟨S2x1, .i32⟩
  | 80 => ⟨S2x1, .i32⟩
  | 81 => ⟨S2x1x1, .i32⟩
  | 82 => ⟨S2x1x6000, .f32⟩
  | 83 => ⟨S2x6000, .f32⟩
  | 84 => ⟨S_, .f32⟩
  | 85 => ⟨S2x6000, .f32⟩
  | 86 => ⟨S2x6000, .i1⟩
  | 87 => ⟨S2x6000, .i1⟩
  | 88 => ⟨S2x6000, .i1⟩
  | 89 => ⟨S2x6000, .i1⟩
  | 90 => ⟨S2x6000, .i1⟩
  | 91 => ⟨S6000, .i32⟩
  | 92 => ⟨S1x6000, .i32⟩
  | 93 => ⟨S2x1, .i32⟩
  | 94 => ⟨S2x6000, .i32⟩
  | 95 => ⟨S2x6000, .i32⟩
  | 96 => ⟨S2x6000, .i1⟩
  | 97 => ⟨S2x6000, .i1⟩
  | 98 => ⟨S_, .i32⟩
  | 99 => ⟨S_, .i32⟩
  | 100 => ⟨S_, .i32⟩
  | 101 => ⟨S2x1000, .i32⟩
  | 102 => ⟨S2x1000, .i1⟩
  | 103 => ⟨S_, .i32⟩
  | 104 => ⟨S2x1000, .i32⟩
  | 105 => ⟨S2x1000, .i32⟩
  | 106 => ⟨S_, .i32⟩
  | 107 => ⟨S2x1000, .i32⟩
  | 108 => ⟨S2x1000, .i1⟩
  | 109 => ⟨S_, .i32⟩
  | 110 => ⟨S2x1000, .i32⟩
  | 111 => ⟨S2x1000, .i32⟩
  | 112 => ⟨S2x1000, .i32⟩
  | 113 => ⟨S2x1000x1, .i32⟩
  | 114 => ⟨S2x1000x4, .f32⟩
  | 115 => ⟨S2x1000x1, .i1⟩
  | 116 => ⟨S_, .f32⟩
  | 117 => ⟨S_, .f32⟩
  | 118 => ⟨S2x1000x4, .i1⟩
  | 119 => ⟨S2x1000x4, .f32⟩
  | 120 => ⟨S2x1000x4, .f32⟩
  | _ => ⟨S2x20000x2, .f32⟩

abbrev hbmTy (i : Nat) : BufTy := match i / 128 with
  | 0 => hbmTy0_0 i
  | 1 => hbmTy0_1 i
  | _ => ⟨S2x20000x2, .f32⟩

abbrev bufTy : (tb : Table) → Fin (tcTables nBuf tb) → BufTy
  | .hbm, ⟨i, _⟩ => hbmTy i
  | _, _ => ⟨S2x20000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_values : Ref sig .tc := ⟨.hbm, 9, rfl⟩
abbrev main_indices : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_5 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_6 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_7 : Ref sig .tc := ⟨.hbm, 78, rfl⟩
abbrev main_cst_8 : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_v64 : Ref sig .tc := ⟨.hbm, 85, rfl⟩
abbrev main_v65 : Ref sig .tc := ⟨.hbm, 86, rfl⟩
abbrev main_call1_v0 : Ref sig .tc := ⟨.hbm, 87, rfl⟩
abbrev main_call1_v1_0 : Ref sig .tc := ⟨.hbm, 88, rfl⟩
abbrev main_v66 : Ref sig .tc := ⟨.hbm, 89, rfl⟩
abbrev main_c_9 : Ref sig .tc := ⟨.hbm, 90, rfl⟩
abbrev main_v67 : Ref sig .tc := ⟨.hbm, 91, rfl⟩
abbrev main_v68 : Ref sig .tc := ⟨.hbm, 92, rfl⟩
abbrev main_c_10 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_11 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_12 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_cst_13 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_14 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_cst_15 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_c_16 : Ref sig .tc := ⟨.hbm, 155, rfl⟩
abbrev main_v125 : Ref sig .tc := ⟨.hbm, 156, rfl⟩
abbrev main_c_17 : Ref sig .tc := ⟨.hbm, 157, rfl⟩
abbrev main_v126 : Ref sig .tc := ⟨.hbm, 158, rfl⟩
abbrev main_c_18 : Ref sig .tc := ⟨.hbm, 159, rfl⟩
abbrev main_c_19 : Ref sig .tc := ⟨.hbm, 160, rfl⟩
abbrev main_v127_0 : Ref sig .tc := ⟨.hbm, 161, rfl⟩
abbrev main_v127_1 : Ref sig .tc := ⟨.hbm, 162, rfl⟩
abbrev main_v127_2 : Ref sig .tc := ⟨.hbm, 163, rfl⟩
abbrev main_v127_3 : Ref sig .tc := ⟨.hbm, 164, rfl⟩
abbrev main_v127_4 : Ref sig .tc := ⟨.hbm, 165, rfl⟩
abbrev main_while0c_c_29 : Ref sig .tc := ⟨.hbm, 166, rfl⟩
abbrev main_while0c_v141 : Ref sig .tc := ⟨.hbm, 167, rfl⟩
abbrev main_while0b_c_29 : Ref sig .tc := ⟨.hbm, 168, rfl⟩
abbrev main_while0b_v141 : Ref sig .tc := ⟨.hbm, 169, rfl⟩
abbrev main_while0b_v142 : Ref sig .tc := ⟨.hbm, 170, rfl⟩
abbrev main_while0b_v143 : Ref sig .tc := ⟨.hbm, 171, rfl⟩
abbrev main_while0b_c_30 : Ref sig .tc := ⟨.hbm, 172, rfl⟩
abbrev main_while0b_call2_v0 : Ref sig .tc := ⟨.hbm, 173, rfl⟩
abbrev main_while0b_call2_v1 : Ref sig .tc := ⟨.hbm, 174, rfl⟩
abbrev main_while0b_call2_v2 : Ref sig .tc := ⟨.hbm, 175, rfl⟩
abbrev main_while0b_v144 : Ref sig .tc := ⟨.hbm, 176, rfl⟩
abbrev main_while0b_c_31 : Ref sig .tc := ⟨.hbm, 177, rfl⟩
abbrev main_while0b_v145 : Ref sig .tc := ⟨.hbm, 178, rfl⟩
abbrev main_while0b_v146 : Ref sig .tc := ⟨.hbm, 179, rfl⟩
abbrev main_while0b_c_32 : Ref sig .tc := ⟨.hbm, 180, rfl⟩
abbrev main_while0b_v147 : Ref sig .tc := ⟨.hbm, 181, rfl⟩
abbrev main_while0b_v148 : Ref sig .tc := ⟨.hbm, 182, rfl⟩
abbrev main_while0b_c_33 : Ref sig .tc := ⟨.hbm, 183, rfl⟩
abbrev main_while0b_v149 : Ref sig .tc := ⟨.hbm, 184, rfl⟩
abbrev main_while0b_v150 : Ref sig .tc := ⟨.hbm, 185, rfl⟩
abbrev main_while0b_v151 : Ref sig .tc := ⟨.hbm, 186, rfl⟩
abbrev main_while0b_v152 : Ref sig .tc := ⟨.hbm, 187, rfl⟩
abbrev main_while0b_v153 : Ref sig .tc := ⟨.hbm, 188, rfl⟩
abbrev main_while0b_v154 : Ref sig .tc := ⟨.hbm, 189, rfl⟩
abbrev main_while0b_c_34 : Ref sig .tc := ⟨.hbm, 190, rfl⟩
abbrev main_while0b_call3_v0 : Ref sig .tc := ⟨.hbm, 191, rfl⟩
abbrev main_while0b_v155 : Ref sig .tc := ⟨.hbm, 192, rfl⟩
abbrev main_while0b_c_35 : Ref sig .tc := ⟨.hbm, 193, rfl⟩
abbrev main_while0b_v156 : Ref sig .tc := ⟨.hbm, 194, rfl⟩
abbrev main_while0b_c_36 : Ref sig .tc := ⟨.hbm, 195, rfl⟩
abbrev main_while0b_v157 : Ref sig .tc := ⟨.hbm, 196, rfl⟩
abbrev main_while0b_v158 : Ref sig .tc := ⟨.hbm, 197, rfl⟩
abbrev main_while0b_v159 : Ref sig .tc := ⟨.hbm, 198, rfl⟩
abbrev main_while0b_v160 : Ref sig .tc := ⟨.hbm, 199, rfl⟩
abbrev main_while0b_v161 : Ref sig .tc := ⟨.hbm, 200, rfl⟩
abbrev main_while0b_v162 : Ref sig .tc := ⟨.hbm, 201, rfl⟩
abbrev main_while0b_c_37 : Ref sig .tc := ⟨.hbm, 202, rfl⟩
abbrev main_while0b_v163 : Ref sig .tc := ⟨.hbm, 203, rfl⟩
abbrev main_while0b_v164 : Ref sig .tc := ⟨.hbm, 204, rfl⟩
abbrev main_while0b_c_38 : Ref sig .tc := ⟨.hbm, 205, rfl⟩
abbrev main_while0b_v165 : Ref sig .tc := ⟨.hbm, 206, rfl⟩
abbrev main_while0b_v166 : Ref sig .tc := ⟨.hbm, 207, rfl⟩
abbrev main_while0b_v167 : Ref sig .tc := ⟨.hbm, 208, rfl⟩
abbrev main_while0b_v168 : Ref sig .tc := ⟨.hbm, 209, rfl⟩
abbrev main_while0b_v169 : Ref sig .tc := ⟨.hbm, 210, rfl⟩
abbrev main_while0b_v170 : Ref sig .tc := ⟨.hbm, 211, rfl⟩
abbrev main_while0b_cst_39 : Ref sig .tc := ⟨.hbm, 212, rfl⟩
abbrev main_while0b_v171 : Ref sig .tc := ⟨.hbm, 213, rfl⟩
abbrev main_while0b_v172 : Ref sig .tc := ⟨.hbm, 214, rfl⟩
abbrev main_while0b_v173 : Ref sig .tc := ⟨.hbm, 215, rfl⟩
abbrev main_while0b_v174 : Ref sig .tc := ⟨.hbm, 216, rfl⟩
abbrev main_while0b_call4_v0 : Ref sig .tc := ⟨.hbm, 217, rfl⟩
abbrev main_while0b_v175 : Ref sig .tc := ⟨.hbm, 218, rfl⟩
abbrev main_while0b_v176 : Ref sig .tc := ⟨.hbm, 219, rfl⟩
abbrev main_while0b_v177 : Ref sig .tc := ⟨.hbm, 220, rfl⟩
abbrev main_while0b_v178 : Ref sig .tc := ⟨.hbm, 221, rfl⟩
abbrev main_while0b_v179 : Ref sig .tc := ⟨.hbm, 222, rfl⟩
abbrev main_while0b_v180 : Ref sig .tc := ⟨.hbm, 223, rfl⟩
abbrev main_while0b_v181 : Ref sig .tc := ⟨.hbm, 224, rfl⟩
abbrev main_while0b_v182 : Ref sig .tc := ⟨.hbm, 225, rfl⟩
abbrev main_while0b_c_40 : Ref sig .tc := ⟨.hbm, 226, rfl⟩
abbrev main_while0b_v183 : Ref sig .tc := ⟨.hbm, 227, rfl⟩
abbrev main_c_20 : Ref sig .tc := ⟨.hbm, 228, rfl⟩
abbrev main_v128 : Ref sig .tc := ⟨.hbm, 229, rfl⟩
abbrev main_v129 : Ref sig .tc := ⟨.hbm, 230, rfl⟩
abbrev main_c_21 : Ref sig .tc := ⟨.hbm, 231, rfl⟩
abbrev main_v130 : Ref sig .tc := ⟨.hbm, 232, rfl⟩
abbrev main_v131 : Ref sig .tc := ⟨.hbm, 233, rfl⟩
abbrev main_c_22 : Ref sig .tc := ⟨.hbm, 234, rfl⟩
abbrev main_v132 : Ref sig .tc := ⟨.hbm, 235, rfl⟩
abbrev main_v133 : Ref sig .tc := ⟨.hbm, 236, rfl⟩
abbrev main_c_23 : Ref sig .tc := ⟨.hbm, 237, rfl⟩
abbrev main_v134 : Ref sig .tc := ⟨.hbm, 238, rfl⟩
abbrev main_v135 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_v139 : Ref sig .tc := ⟨.hbm, 243, rfl⟩
abbrev main_cst_24 : Ref sig .tc := ⟨.hbm, 244, rfl⟩
abbrev main_call5_v0 : Ref sig .tc := ⟨.hbm, 245, rfl⟩
abbrev main_call5_v1 : Ref sig .tc := ⟨.hbm, 246, rfl⟩
abbrev main_call5_v2 : Ref sig .tc := ⟨.hbm, 247, rfl⟩
abbrev main_v140 : Ref sig .tc := ⟨.hbm, 248, rfl⟩

abbrev nD : Nat := 1
abbrev τ : Topo := Topo.v7x

variable {F : FTy → Type} [FloatOps F]

abbrev main_while0_count : Scf.Loop 32 := ⟨0#32, 1000#32, 1#32⟩
-- ==== Proof.Bits.Body.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import Idealize.ShloMosaic.Lib.Tactic

@[expose] public section

noncomputable section

namespace Cert.Proof.Bits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
local notation "𝕄" => MT nD τ sig Unit (Elt F) ℕ (UU nD τ) ℕ

/-- The label of the in-block iteration is entered at the number of iterations that its counter still allows. -/
abbrev 𝒱₀ : Variants := Variants.nat

/-- The in-block iteration's label: it holds no memory and returns some values. -/
def spec : sWPT 𝕄 (FVec F S1x512 .f32 × BitVec 1 × BitVec 32) := do
  let r ← sWPT.arbitrary
  pure r

theorem spec_apply (K : FVec F S1x512 .f32 × BitVec 1 × BitVec 32 → sProp 𝕄) :
    spec (F := F) K = iprop(∀ r, K r) := rfl

/-- The counter test at `514 - n`: with no iteration left it fails, -/
theorem slt_last (b : BitVec 1) : ¬Scalar.andi b (Scalar.cmpi .slt (BitVec.ofNat 32 514) 514#32) = 1#1 := by
  revert b; decide

theorem addi_iter (n : ℕ) (h : n < 514) :
    Scalar.addi (BitVec.ofNat 32 (514 - (n + 1))) 1#32 = BitVec.ofNat 32 (514 - n) := by
  show BitVec.ofNat 32 _ + 1#32 = _
  rw [show (1#32 : BitVec 32) = BitVec.ofNat 32 1 from rfl, ← BitVec.ofNat_add]
  congr 1; omega

/-- The label's body meets its specification from any carried values, the counter at `514 - n`. -/
theorem spec_le (c : Dev nD) (E : Set ℕ) (i : grid0.Coords) (k : Fin k0_t1_loop.trips) (v174 : FVec F S512x512 .f32)
    (v133 : FVec F S1x512 .f32) : ∀ n : ℕ, n ≤ 514 → ∀ (s : FVec F S1x512 .f32) (b : BitVec 1) K,
    spec (F := F) K ⊢ wp frame (wpE (defs₀ (F := F)) 𝒱₀ (c : Thread nD τ) (some n)) E
      (defs₀ (F := F) .tc 1 ⟨i, k, v174, v133, s, b, BitVec.ofNat 32 (514 - n)⟩) K := by
  intro n
  induction n with
  | zero =>
    intro _ s b K
    rw [spec_apply]
    show _ ⊢ wp frame (wpE (defs₀ (F := F)) 𝒱₀ (c : Thread nD τ) (some 0)) E
      (cc0_while1 i k v174 v133 s b (BitVec.ofNat 32 514)) K
    simp only [cc0_while1_eq_skeleton]; unfold cc0_while1_skel
    simp only [slt_last, ↓reduceIte, Prog.pure_eq_ret]
    iintro H
    rw [wp_ret]; imodintro
    iapply H
  | succ n ih =>
    intro hn s b K
    rw [spec_apply]
    show _ ⊢ wp frame (wpE (defs₀ (F := F)) 𝒱₀ (c : Thread nD τ) (some (n + 1))) E
      (cc0_while1 i k v174 v133 s b (BitVec.ofNat 32 (514 - (n + 1)))) K
    simp only [cc0_while1_eq_skeleton]; unfold cc0_while1_skel
    by_cases hb : Scalar.andi b (Scalar.cmpi .slt (BitVec.ofNat 32 (514 - (n + 1))) 514#32) = 1#1
    · simp only [hb, ↓reduceIte, Prog.lift, Prog.bind_op, Prog.bind_ret, Prog.pure_eq_ret]
      rw [addi_iter n (by omega)]
      iintro H
      iapply (wp_call_spec 𝒱₀ (c : Thread nD τ) (some (n + 1)) E (spec (F := F)) n
        (fun u hu => by cases hu; exact Nat.lt_succ_self n) (ih (by omega) _ _))
      rw [spec_apply]
      iintro %r
      rw [wp_ret]; imodintro
      iapply H
    · simp only [hb, ↓reduceIte, Prog.pure_eq_ret]
      iintro H
      rw [wp_ret]; imodintro
      iapply H

set_option warn.classDefReducibility false in
/-- The blocks' loop: before each trip the scratch buffer holds some contents. -/
@[sl_loop] def loopInv_k0_t1 (c : Dev nD) (i : grid0.Coords) (arg1 : Memref sig .tc .vmem S1x4x6144 .f32) (harg1 : arg1.IsWhole)
    (arg2 : Memref sig .tc .vmem S1x4x6144 .f32) (harg2 : arg2.IsWhole) (arg3 : Memref sig .tc .vmem S1x1000x4 .f32) (harg3 : arg3.IsWhole)
    (arg4 : Memref sig .tc .vmem S8x6144 .f32) (harg4 : arg4.IsWhole) (v53 : FVec F S6144 .f32) (v60 : FVec F S6144 .f32) :
    LoopInvTy_k0_t1 (F := F) Unit ℕ (UU nD τ) ℕ 𝒱₀ c none Set.univ i arg1 harg1 arg2 harg2 arg3 harg3 arg4 harg4 v53 v60 where
  inv _ _ := iprop(∃ f, arg4.view.loc (c : Thread nD τ) ↦[arg4.view.set]{fullShare} f)
  step k _ := by
    iintro ⟨%f, H⟩
    sl_unfold [k0_t1_body]
    sl_exec
    iapply (wp_call_spec 𝒱₀ (c : Thread nD τ) none Set.univ (spec (F := F)) 514
        (fun u hu => nomatch hu) (spec_le c Set.univ i k _ _ 514 le_rfl _ _))
    rw [spec_apply]
    iintro %r
    sl_exec
    sl_step
    iexists _; iexact H

end Cert.Proof.Bits
-- ==== Proof.Bits.Run.lean ====
module

public import proofs.«01_k».proof.Proof.Bits.Body
public import Idealize.ShloMosaic.Lib.Pipeline.Frame

@[expose] public section

noncomputable section

namespace Cert.Proof.Bits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]
local notation "𝕄" => MT nD τ sig Unit (Elt F) ℕ (UU nD τ) ℕ

/-- The kernel's body on whole memrefs, each at some contents: it runs to its end and leaves each at some contents. -/
theorem body_run (c : Dev nD) (i : grid0.Coords) (arg1 : Memref sig .tc .vmem S1x4x6144 .f32) (harg1 : arg1.IsWhole)
    (arg2 : Memref sig .tc .vmem S1x4x6144 .f32) (harg2 : arg2.IsWhole) (arg3 : Memref sig .tc .vmem S1x1000x4 .f32) (harg3 : arg3.IsWhole)
    (arg4 : Memref sig .tc .vmem S8x6144 .f32) (harg4 : arg4.IsWhole) (K : PUnit → sProp 𝕄) :
    iprop((∃ d, owns (c : Thread nD τ) arg1 fullShare d) ∗ (∃ d, owns (c : Thread nD τ) arg2 fullShare d)
      ∗ (∃ d, owns (c : Thread nD τ) arg3 fullShare d) ∗ (∃ d, owns (c : Thread nD τ) arg4 fullShare d)
      ∗ (iprop((∃ d, owns (c : Thread nD τ) arg1 fullShare d) ∗ (∃ d, owns (c : Thread nD τ) arg2 fullShare d)
      ∗ (∃ d, owns (c : Thread nD τ) arg3 fullShare d) ∗ (∃ d, owns (c : Thread nD τ) arg4 fullShare d)) -∗ K ⟨⟩))
    ⊢ wp frame (wpE (defs₀ (F := F)) 𝒱₀ (c : Thread nD τ) none) Set.univ
      (cc0__nms_kernel i arg1 harg1 arg2 harg2 arg3 harg3 arg4 harg4) K := by
  unfold owns
  iintro ⟨⟨%d1, %f1, -, H1⟩, ⟨%d2, %f2, -, H2⟩, ⟨%d3, %f3, -, H3⟩, ⟨%d4, %f4, -, H4⟩, HK⟩
  sl_unfold [cc0__nms_kernel]
  sl_exec
  sl_step
  iapply HK
  isplitl [H1]; · iexists _, _; isplitr; swap; · iexact H1
                  ipureintro; rfl
  isplitl [H2]; · iexists _, _; isplitr; swap; · iexact H2
                  ipureintro; rfl
  isplitl [H3]; · iexists _, _; isplitr; swap; · iexact H3
                  ipureintro; rfl
  iexists _, _; isplitr; swap; · iexact H4
  ipureintro; rfl

variable (m : (ℓ : Loc nD τ sig) → Buf (Elt F) ℓ) (ρ : Dev nD → PrngReg)

/-- The buffers as the pallas_call finds them: after the host operations. -/
abbrev V (c : Dev nD) (b : Ref sig .tc) : Buf (Elt F) ((c : Thread nD τ).loc b) := StableHlo.after hostOps0 (fun b => m (c, b)) b

set_option maxHeartbeats 4000000 in
theorem hostOps0_fresh : (hostOps0 : List (HloOp τ sig (Elt F))).Forall fun op => op.fresh = ∅ := by
  simp only [List.Forall]; repeat' constructor

/-- The reference each host operation writes, in order. -/
abbrev hostOps0_W : List (Ref sig .tc) := [main_call0_cst, main_call0_v0, main_call0_v1, main_call0_values, main_call0_indices, main_call0_v2, main_call0_v3, main_call0_v4, main_call0_v5, main_call0_call0_c, main_call0_call0_v0, main_call0_call0_v1, main_call0_call0_c_0, main_call0_call0_v2, main_call0_call0_v3, main_call0_call0_v4, main_call0_call0_c_1, main_call0_call0_c_2, main_call0_call0_v5, main_call0_call0_v6, main_call0_call0_v7, main_call0_call0_v8, main_call0_call0_v9, main_call0_call0_v10, main_call0_call0_c_3, main_call0_call0_v11, main_call0_call0_v12, main_call0_call0_v13, main_call0_call0_cst, main_call0_call0_v14, main_call0_v6, main_call0_v7, main_call0_v8, main_call0_v9, main_call0_v10, main_call0_v11, main_call0_call1_c, main_call0_call1_v0, main_call0_call1_v1, main_call0_call1_c_0, main_call0_call1_v2, main_call0_call1_v3, main_call0_call1_v4, main_call0_call1_c_1, main_call0_call1_c_2, main_call0_call1_v5, main_call0_call1_v6, main_call0_call1_v7, main_call0_call1_v8, main_call0_call1_v9, main_call0_call1_v10, main_call0_call1_c_3, main_call0_call1_v11, main_call0_call1_v12, main_call0_call1_v13, main_call0_call1_cst, main_call0_call1_v14, main_call0_v12, main_call0_c, main_call0_call2_v0, main_call0_v13, main_call0_c_0, main_call0_call3_v0, main_call0_v14, main_call0_v15, main_call0_v16]

theorem hostOps0_writes : (hostOps0 : List (HloOp τ sig (Elt F))).Forall
    fun op => op.writes ⊆ (hostOps0_W.map (Proc.devRef (τ := τ) .tc)).toFinset :=
  StableHlo.forall_writes_sub_of_map rfl

set_option maxHeartbeats 40000000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The pipeline's proof data: the arrays as the region finds them; what the body leaves in a staging buffer is not
    stated (every window is forgotten below). -/
def dats (_ : Fin 1) (c : Dev nD) : Dat τ (Elt F) Unit ℕ (UR sig nD τ) ℕ (cfg0 (F := F)) c where
  A w := V m c (Pipeline.arrRef spec0 w)
  after w _ := match w with
    | ⟨0, _⟩ => fun _ => (FloatOps.ofBits .f32 0#32 : F .f32)
    | ⟨1, _⟩ => fun _ => (FloatOps.ofBits .f32 0#32 : F .f32)
    | ⟨2, _⟩ => fun _ => (FloatOps.ofBits .f32 0#32 : F .f32)
  Φ _ := Pipeline.ΦA spec0 c
  q _ := fullShare
  owed _ := 0

theorem body_obligation (c : Dev nD) :
    BodyObligationLoose (dats (F := F) m 0 c) (defs₀ (F := F)) 𝒱₀ () Set.univ (fun _ => true) := fun t => by
  rw [bigSep_W0]
  sl_whnfR [defs₀, Defs.onTc]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  iintro ⟨⟨⟨%f, Hs⟩, Hg⟩, Ho, H0, H1, H2⟩
  iapply (body_run c _ _ _ _ _ _ _ _ _ _)
  isplitl [H0]; · iexact H0
  isplitl [H1]; · iexact H1
  isplitl [H2]; · iexact H2
  isplitl [Hs]; · iexists _; rw [owns_whole]; iexact Hs
  iintro ⟨H0, H1, H2, ⟨%d, Hs⟩⟩
  isplitl [Hs Hg]
  · isplitl [Hs]; · iexists d; iapply (Entails.of_eq (owns_whole _ _ _ _)); iexact Hs
    iexact Hg
  isplitl [Ho]; · iexact Ho
  isplitl [H0]; · iexact H0
  isplitl [H1]; · iexact H1
  iexact H2

set_option backward.isDefEq.respectTransparency.types false in
/-- From any memory with zero counters the program terminates, every array that is no window's as the host operations
    left it, and every counter at zero. -/
theorem run_main : θ_run defs (onTc (τ := τ) (main (F := F))) (s₀ m ρ)
    (fun r => Pipeline.RDat.FramePost (cfg0 (F := F)) (fun c => (dats m 0 c).toRForget (fun _ => true)) (V m) r ∧ r.2.sem = fun _ => 0) :=
  Pipeline.θ_run_frame_forget (Q' := _) cfgs (dats m) (0 : Fin 1) launch0 defs₀ 𝒱₀ (fun _ => true) m ρ main
    (hbody := fun c => body_obligation m c) (hshare := fun c => (dats m 0 c).share_full fun _ => rfl)
    (howed := fun _ _ => rfl) (V := V m) (hmain := hmain m 𝒱₀) (hA := fun _ _ => rfl) (hΦ := fun _ _ => rfl)

/-- An argument is written by no host operation. -/
theorem V_arg (c : Dev nD) (r : Ref sig .tc) (hr : r ∉ hostOps0_W) : V m c r = m ((c : Thread nD τ).loc r) :=
  StableHlo.after_of_writes_sub hostOps0 _ hostOps0_writes hr

theorem rest_arg (r : Ref sig .tc) (h : ∀ w : Fin 3, (spec0 w).arr.view.ref ≠ r) (w : Fin (cfg0 (F := F)).W) :
    ((cfg0 (F := F)).spec w).arr.view.ref ≠ r := h w

/-- The frame: the program terminates, its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono
    (fun _ h => ⟨fun c =>
      ⟨((h.1 c).2 main_arg0 (Pipeline.mem_restRefs_of main_arg0 (by decide) (rest_arg main_arg0 (by decide)))).trans (V_arg m c main_arg0 (by decide)),
       ((h.1 c).2 main_arg1 (Pipeline.mem_restRefs_of main_arg1 (by decide) (rest_arg main_arg1 (by decide)))).trans (V_arg m c main_arg1 (by decide)),
       ((h.1 c).2 main_arg2 (Pipeline.mem_restRefs_of main_arg2 (by decide) (rest_arg main_arg2 (by decide)))).trans (V_arg m c main_arg2 (by decide))⟩, h.2⟩)
    (run_main m ρ)

end Cert.Proof.Bits
-- ==== Proof.Ideal.Body.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.Tactic

@[expose] public section

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
local notation "𝕄" => MT nD τ sig Unit (Elt F) ℕ (UU nD τ) ℕ

/-- The label of the in-block iteration is entered at the number of iterations that its counter still allows. -/
abbrev 𝒱₀ : Variants := Variants.nat

/-- What the in-block iteration returns when its counter still allows `n` iterations: it iterates while the last
    iteration changed something. -/
@[irreducible] def whl (v174 : FVec F S512x512 .f32) (v133 : FVec F S1x512 .f32) : ℕ → FVec F S1x512 .f32 → BitVec 1 → FVec F S1x512 .f32 × BitVec 1 × BitVec 32
  | 0, s, b => (s, b, BitVec.ofNat 32 514)
  | n + 1, s, b =>
    if Scalar.andi b (Scalar.cmpi .slt (BitVec.ofNat 32 (514 - (n + 1))) 514#32) = 1#1 then
      whl v174 v133 n (k0_pay1 v174 v133 s) (Scalar.cmpf .ogt (k0_pay2 v174 v133 s) (Scalar.ofBits .f32 0x00000000#32))
    else (s, b, BitVec.ofNat 32 (514 - (n + 1)))

theorem whl_zero (v174 : FVec F S512x512 .f32) (v133 s : FVec F S1x512 .f32) (b : BitVec 1) :
    whl v174 v133 0 s b = (s, b, BitVec.ofNat 32 514) := by unfold whl; rfl

theorem whl_succ (v174 : FVec F S512x512 .f32) (v133 s : FVec F S1x512 .f32) (b : BitVec 1) (n : ℕ) :
    whl v174 v133 (n + 1) s b = if Scalar.andi b (Scalar.cmpi .slt (BitVec.ofNat 32 (514 - (n + 1))) 514#32) = 1#1 then
      whl v174 v133 n (k0_pay1 v174 v133 s) (Scalar.cmpf .ogt (k0_pay2 v174 v133 s) (Scalar.ofBits .f32 0x00000000#32))
    else (s, b, BitVec.ofNat 32 (514 - (n + 1))) := by rw [whl]

/-- The in-block iteration's label: it holds no memory and returns `r`. -/
def spec (r : FVec F S1x512 .f32 × BitVec 1 × BitVec 32) : sWPT 𝕄 (FVec F S1x512 .f32 × BitVec 1 × BitVec 32) := pure r

theorem spec_apply (r) (K : FVec F S1x512 .f32 × BitVec 1 × BitVec 32 → sProp 𝕄) : spec (F := F) r K = K r := rfl

/-- The counter test at `514 - n`: with no iteration left it fails, -/
theorem slt_last (b : BitVec 1) : ¬Scalar.andi b (Scalar.cmpi .slt (BitVec.ofNat 32 514) 514#32) = 1#1 := by
  revert b; decide

theorem addi_iter (n : ℕ) (h : n < 514) :
    Scalar.addi (BitVec.ofNat 32 (514 - (n + 1))) 1#32 = BitVec.ofNat 32 (514 - n) := by
  show BitVec.ofNat 32 _ + 1#32 = _
  rw [show (1#32 : BitVec 32) = BitVec.ofNat 32 1 from rfl, ← BitVec.ofNat_add]
  congr 1; omega

/-- The label's body meets its specification from any carried values, the counter at `514 - n`. -/
theorem spec_le (c : Dev nD) (E : Set ℕ) (i : grid0.Coords) (k : Fin k0_t1_loop.trips) (v174 : FVec F S512x512 .f32)
    (v133 : FVec F S1x512 .f32) : ∀ n : ℕ, n ≤ 514 → ∀ (s : FVec F S1x512 .f32) (b : BitVec 1) K,
    spec (F := F) (whl v174 v133 n s b) K ⊢ wp frame (wpE (defs₀ (F := F)) 𝒱₀ (c : Thread nD τ) (some n)) E
      (defs₀ (F := F) .tc 1 ⟨i, k, v174, v133, s, b, BitVec.ofNat 32 (514 - n)⟩) K := by
  intro n
  induction n with
  | zero =>
    intro _ s b K
    rw [spec_apply]
    show _ ⊢ wp frame (wpE (defs₀ (F := F)) 𝒱₀ (c : Thread nD τ) (some 0)) E
      (cc0_while1 i k v174 v133 s b (BitVec.ofNat 32 514)) K
    simp only [cc0_while1_eq_skeleton]; unfold cc0_while1_skel
    simp only [slt_last, ↓reduceIte, Prog.pure_eq_ret, whl_zero]
    iintro H
    rw [wp_ret]; imodintro
    iexact H
  | succ n ih =>
    intro hn s b K
    rw [spec_apply]
    show _ ⊢ wp frame (wpE (defs₀ (F := F)) 𝒱₀ (c : Thread nD τ) (some (n + 1))) E
      (cc0_while1 i k v174 v133 s b (BitVec.ofNat 32 (514 - (n + 1)))) K
    simp only [cc0_while1_eq_skeleton]; unfold cc0_while1_skel
    rw [whl_succ]
    by_cases hb : Scalar.andi b (Scalar.cmpi .slt (BitVec.ofNat 32 (514 - (n + 1))) 514#32) = 1#1
    · simp only [hb, ↓reduceIte, Prog.lift, Prog.bind_op, Prog.bind_ret, Prog.pure_eq_ret]
      rw [addi_iter n (by omega)]
      iintro H
      iapply (wp_call_spec 𝒱₀ (c : Thread nD τ) (some (n + 1)) E (spec (F := F) _) n
        (fun u hu => by cases hu; exact Nat.lt_succ_self n) (ih (by omega) _ _))
      rw [spec_apply, wp_ret]; imodintro
      iexact H
    · simp only [hb, ↓reduceIte, Prog.pure_eq_ret]
      iintro H
      rw [wp_ret]; imodintro
      iexact H

/-- What one trip of the blocks' loop makes of the scratch buffer's contents, with the proof that it does. -/
def trip1 (c : Dev nD) (i : grid0.Coords) (arg1 : Memref sig .tc .vmem S1x4x6144 .f32) (harg1 : arg1.IsWhole)
    (arg2 : Memref sig .tc .vmem S1x4x6144 .f32) (harg2 : arg2.IsWhole) (arg3 : Memref sig .tc .vmem S1x1000x4 .f32) (harg3 : arg3.IsWhole)
    (arg4 : Memref sig .tc .vmem S8x6144 .f32) (harg4 : arg4.IsWhole) (v53 : FVec F S6144 .f32) (v60 : FVec F S6144 .f32)
    (k : Fin k0_t1_loop.trips) :
    { L : BufTy.Contents (Elt F) arg4.view.ty → BufTy.Contents (Elt F) arg4.view.ty //
      ∀ (acc : Unit) (f : BufTy.Contents (Elt F) arg4.view.ty),
        (arg4.view.loc (c : Thread nD τ) ↦[arg4.view.set]{fullShare} f : sProp 𝕄)
          ⊢ wp frame (wpE (defs₀ (F := F)) 𝒱₀ (c : Thread nD τ) none) Set.univ
              (k0_t1_body i arg1 harg1 arg2 harg2 arg3 harg3 arg4 harg4 v53 v60 k acc)
              fun _ => (arg4.view.loc (c : Thread nD τ) ↦[arg4.view.set]{fullShare} L f : sProp 𝕄) } := by
  refine ⟨?_, fun acc f => ?run⟩
  case run =>
    iintro H
    sl_unfold [k0_t1_body]
    sl_exec
    iapply (wp_call_spec 𝒱₀ (c : Thread nD τ) none Set.univ (spec (F := F) _) 514
        (fun u hu => nomatch hu) (spec_le c Set.univ i k _ _ 514 le_rfl _ _))
    rw [spec_apply]
    sl_exec
    sl_step
    iexact H

/-- The scratch buffer's contents before the blocks' loop's trip `k`, `G` those at its entry. -/
def St1 (c : Dev nD) (i : grid0.Coords) (arg1 : Memref sig .tc .vmem S1x4x6144 .f32) (harg1 : arg1.IsWhole)
    (arg2 : Memref sig .tc .vmem S1x4x6144 .f32) (harg2 : arg2.IsWhole) (arg3 : Memref sig .tc .vmem S1x1000x4 .f32) (harg3 : arg3.IsWhole)
    (arg4 : Memref sig .tc .vmem S8x6144 .f32) (harg4 : arg4.IsWhole) (v53 : FVec F S6144 .f32) (v60 : FVec F S6144 .f32)
    (G : BufTy.Contents (Elt F) arg4.view.ty) : ℕ → BufTy.Contents (Elt F) arg4.view.ty
  | 0 => G
  | k + 1 => if h : k < k0_t1_loop.trips then
      (trip1 c i arg1 harg1 arg2 harg2 arg3 harg3 arg4 harg4 v53 v60 ⟨k, h⟩).1
        (St1 c i arg1 harg1 arg2 harg2 arg3 harg3 arg4 harg4 v53 v60 G k)
    else St1 c i arg1 harg1 arg2 harg2 arg3 harg3 arg4 harg4 v53 v60 G k

theorem St1_succ (c : Dev nD) (i : grid0.Coords) (arg1 : Memref sig .tc .vmem S1x4x6144 .f32) (harg1 : arg1.IsWhole)
    (arg2 : Memref sig .tc .vmem S1x4x6144 .f32) (harg2 : arg2.IsWhole) (arg3 : Memref sig .tc .vmem S1x1000x4 .f32) (harg3 : arg3.IsWhole)
    (arg4 : Memref sig .tc .vmem S8x6144 .f32) (harg4 : arg4.IsWhole) (v53 : FVec F S6144 .f32) (v60 : FVec F S6144 .f32)
    (G : BufTy.Contents (Elt F) arg4.view.ty) (k : Fin k0_t1_loop.trips) :
    St1 c i arg1 harg1 arg2 harg2 arg3 harg3 arg4 harg4 v53 v60 G (k + 1)
      = (trip1 c i arg1 harg1 arg2 harg2 arg3 harg3 arg4 harg4 v53 v60 k).1
        (St1 c i arg1 harg1 arg2 harg2 arg3 harg3 arg4 harg4 v53 v60 G k) := by
  rw [St1, dif_pos k.isLt]

set_option warn.classDefReducibility false in
/-- The blocks' loop: before each trip the scratch buffer holds `St1`'s contents. -/
@[sl_loop] def loopInv_k0_t1 (c : Dev nD) (i : grid0.Coords) (arg1 : Memref sig .tc .vmem S1x4x6144 .f32) (harg1 : arg1.IsWhole)
    (arg2 : Memref sig .tc .vmem S1x4x6144 .f32) (harg2 : arg2.IsWhole) (arg3 : Memref sig .tc .vmem S1x1000x4 .f32) (harg3 : arg3.IsWhole)
    (arg4 : Memref sig .tc .vmem S8x6144 .f32) (harg4 : arg4.IsWhole) (v53 : FVec F S6144 .f32) (v60 : FVec F S6144 .f32)
    (G : BufTy.Contents (Elt F) arg4.view.ty) :
    LoopInvTy_k0_t1 (F := F) Unit ℕ (UU nD τ) ℕ 𝒱₀ c none Set.univ i arg1 harg1 arg2 harg2 arg3 harg3 arg4 harg4 v53 v60 where
  inv k _ := iprop(∃ f, (arg4.view.loc (c : Thread nD τ) ↦[arg4.view.set]{fullShare} f)
    ∗ ⌜f = St1 c i arg1 harg1 arg2 harg2 arg3 harg3 arg4 harg4 v53 v60 G k⌝)
  step k acc := by
    iintro ⟨%f, H, %hf⟩
    subst hf
    iapply (wp_wand_r Idealize.ShloMosaic.frame (wpE (defs₀ (F := F)) 𝒱₀ (c : Thread nD τ) none) Set.univ)
    isplitl [H]
    · iapply ((trip1 c i arg1 harg1 arg2 harg2 arg3 harg3 arg4 harg4 v53 v60 k).2 acc _)
      iexact H
    · iintro %_ H
      iexists _; isplitl [H]; · iexact H
      ipureintro
      exact (St1_succ c i arg1 harg1 arg2 harg2 arg3 harg3 arg4 harg4 v53 v60 G k).symm

end Cert.Proof.Ideal
-- ==== Proof.Math.Nms.lean ====
module

public import Idealize.ShloMosaic.Lib.Pointwise

@[expose] public section

/-!
# Greedy suppression

`M i j` says that candidate `i` suppresses candidate `j`; candidates come in order of their scores.  `keep` is the
greedy choice, `cnt j` the number of kept candidates up to `j`.  The facts here are about natural numbers alone.
-/

namespace Cert.Proof.Nms

open Classical

/-- Candidate `j` of `n` is kept when no kept candidate before it suppresses it. -/
def keep (n : ℕ) (M : ℕ → ℕ → Prop) (j : ℕ) : Prop := j < n ∧ ∀ i, (_ : i < j) → keep n M i → ¬ M i j
termination_by j

theorem keep_iff (n : ℕ) (M : ℕ → ℕ → Prop) (j : ℕ) : keep n M j ↔ j < n ∧ ∀ i < j, keep n M i → ¬ M i j := by
  rw [keep]

/-- The kept candidates up to `j`, counted. -/
noncomputable def cnt (n : ℕ) (M : ℕ → ℕ → Prop) (j : ℕ) : ℕ := ((Finset.range (j + 1)).filter fun i => keep n M i).card

variable {n : ℕ} {M : ℕ → ℕ → Prop}

theorem keep.lt {j : ℕ} (h : keep n M j) : j < n := ((keep_iff n M j).1 h).1

theorem cnt_succ (j : ℕ) : cnt n M (j + 1) = cnt n M j + if keep n M (j + 1) then 1 else 0 := by
  unfold cnt
  rw [Finset.range_add_one, Finset.filter_insert]
  split_ifs with h
  · rw [Finset.card_insert_of_notMem (by simp)]
  · rfl

theorem cnt_mono : Monotone (cnt n M) := monotone_nat_of_le_succ fun j => by rw [cnt_succ]; omega

theorem cnt_pos {j : ℕ} (h : keep n M j) : 0 < cnt n M j := by
  unfold cnt
  exact Finset.card_pos.2 ⟨j, by simp [h]⟩

theorem cnt_lt {i j : ℕ} (hij : i < j) (h : keep n M j) : cnt n M i < cnt n M j := by
  obtain ⟨j, rfl⟩ : ∃ l, j = l + 1 := ⟨j - 1, by omega⟩
  rw [cnt_succ, if_pos h]
  have := cnt_mono (n := n) (M := M) (show i ≤ j by omega)
  omega

theorem cnt_inj {i j : ℕ} (hi : keep n M i) (hj : keep n M j) (h : cnt n M i = cnt n M j) : i = j := by
  rcases lt_trichotomy i j with hl | rfl | hl
  · have := cnt_lt hl hj; omega
  · rfl
  · have := cnt_lt hl hi; omega

/-- Each count up to `cnt j` is met at a kept candidate. -/
theorem exists_cnt (j t : ℕ) (h0 : 0 < t) (h : t ≤ cnt n M j) : ∃ a ≤ j, keep n M a ∧ cnt n M a = t := by
  induction j with
  | zero =>
    by_cases hk : keep n M 0
    · refine ⟨0, le_rfl, hk, ?_⟩
      have : cnt n M 0 ≤ 1 := by
        unfold cnt; exact (Finset.card_filter_le _ _).trans (by simp)
      omega
    · have : cnt n M 0 = 0 := by
        unfold cnt; simp [hk]
      omega
  | succ j ih =>
    by_cases ht : t ≤ cnt n M j
    · obtain ⟨a, ha, h1, h2⟩ := ih ht
      exact ⟨a, by omega, h1, h2⟩
    · rw [cnt_succ] at h
      split_ifs at h with hk
      · refine ⟨j + 1, le_rfl, hk, ?_⟩
        rw [cnt_succ, if_pos hk]; omega
      · omega

/-- Two suppression relations that agree below `n` keep the same candidates. -/
theorem keep_congr {M' : ℕ → ℕ → Prop} (h : ∀ i < n, ∀ j < n, (M i j ↔ M' i j)) : keep n M = keep n M' := by
  funext j
  induction j using Nat.strong_induction_on with
  | _ j ih =>
    rw [keep_iff, keep_iff]
    apply propext
    refine and_congr_right fun hj => forall_congr' fun i => forall_congr' fun hi => ?_
    rw [ih i hi, h i (by omega) j hj]

theorem cnt_congr {M' : ℕ → ℕ → Prop} (h : ∀ i < n, ∀ j < n, (M i j ↔ M' i j)) : cnt n M = cnt n M' := by
  unfold cnt; rw [keep_congr h]

/-! ### The one-at-a-time selection -/

/-- Candidate `j` is still there after the first `i` selections. -/
def Act (n : ℕ) (M : ℕ → ℕ → Prop) (i j : ℕ) : Prop := ∀ a, keep n M a → cnt n M a ≤ i → a ≠ j ∧ ¬ M a j

theorem act_zero (j : ℕ) : Act n M 0 j := fun a ha h => absurd (cnt_pos ha) (by omega)

theorem act_of_keep {i a : ℕ} (ha : keep n M a) (h : i < cnt n M a) : Act n M i a := fun b hb hbi => by
  have hba : b < a := by
    by_contra hc
    have := cnt_mono (n := n) (M := M) (show a ≤ b by omega)
    omega
  exact ⟨by omega, ((keep_iff n M a).1 ha).2 b hba hb⟩

/-- The first candidate still there is the next kept one. -/
theorem keep_of_first {i j : ℕ} (hj : j < n) (hact : Act n M i j) (hmin : ∀ a < j, ¬ Act n M i a) :
    keep n M j ∧ cnt n M j = i + 1 := by
  have hk : keep n M j := by
    rw [keep_iff]
    refine ⟨hj, fun a ha hka hM => ?_⟩
    by_cases hc : cnt n M a ≤ i
    · exact (hact a hka hc).2 hM
    · exact hmin a ha (act_of_keep hka (by omega))
  refine ⟨hk, ?_⟩
  have h1 : ¬ cnt n M j ≤ i := fun hc => (hact j hk hc).1 rfl
  by_contra h2
  obtain ⟨a, ha, hka, hca⟩ := exists_cnt (n := n) (M := M) j (i + 1) (by omega) (by omega)
  have : a ≠ j := fun e => h2 (e ▸ hca)
  exact hmin a (by omega) (act_of_keep hka (by omega))

/-- Who is still there after one more selection. -/
theorem act_succ {i j₀ : ℕ} (hk : keep n M j₀) (hc : cnt n M j₀ = i + 1) (j : ℕ) :
    Act n M (i + 1) j ↔ Act n M i j ∧ ¬ M j₀ j ∧ j ≠ j₀ := by
  constructor
  · intro h
    refine ⟨fun a ha hai => h a ha (by omega), ?_⟩
    have := h j₀ hk (by omega)
    exact ⟨this.2, fun e => this.1 e.symm⟩
  · rintro ⟨h1, h2, h3⟩ a ha hai
    by_cases hl : cnt n M a ≤ i
    · exact h1 a ha hl
    · obtain rfl := cnt_inj ha hk (by omega)
      exact ⟨fun e => h3 e.symm, h2⟩

/-- With nobody left there is no further kept candidate. -/
theorem none_left {i : ℕ} (h : ∀ j < n, ¬ Act n M i j) (j : ℕ) : ¬ (keep n M j ∧ cnt n M j = i + 1) :=
  fun ⟨hk, hc⟩ => h j hk.lt (act_of_keep hk (by omega))

theorem act_mono {i j : ℕ} (h : Act n M (i + 1) j) : Act n M i j := fun a ha hai => h a ha (by omega)

/-! ### The blocked choice -/

/-- One round of the iteration inside a block: `A` the candidates that no earlier block suppressed. -/
def round {B : ℕ} (A : Fin B → Prop) (m : Fin B → Fin B → Prop) (S : Fin B → Prop) (c : Fin B) : Prop :=
  A c ∧ ∀ a, S a → ¬ (m a c ∧ a < c)

variable {B : ℕ} {A K : Fin B → Prop} {m : Fin B → Fin B → Prop}

/-- A round makes one more entry right, `K` the iteration's fixed point. -/
theorem round_agree (hK : ∀ c, K c ↔ round A m K c) {S : Fin B → Prop} {t : ℕ} (h : ∀ c : Fin B, c.val < t → (S c ↔ K c)) :
    ∀ c : Fin B, c.val < t + 1 → (round A m S c ↔ K c) := by
  intro c hc
  rw [hK c]
  unfold round
  refine and_congr_right fun _ => forall_congr' fun a => ?_
  by_cases hac : a < c
  · rw [h a (by have : a.val < c.val := hac; omega)]
  · simp [hac]

/-- The iteration has one fixed point only. -/
theorem round_unique (hK : ∀ c, K c ↔ round A m K c) {S : Fin B → Prop} (hS : ∀ c, S c ↔ round A m S c) (c : Fin B) :
    S c ↔ K c := by
  have : ∀ t : ℕ, ∀ c : Fin B, c.val < t → (S c ↔ K c) := by
    intro t
    induction t with
    | zero => intro c hc; omega
    | succ t ih =>
      intro c hc
      rw [hS c]
      exact round_agree hK ih c hc
  exact this (c.val + 1) c (by omega)

/-- The kept candidates of one block are the fixed point of its iteration, `o` the block's first candidate. -/
theorem keep_round (o : ℕ) (A : Fin B → Prop)
    (hA : ∀ c : Fin B, A c ↔ o + c.val < n ∧ ∀ i < o, keep n M i → ¬ M i (o + c.val)) (c : Fin B) :
    keep n M (o + c.val) ↔ round A (fun a c => M (o + a.val) (o + c.val)) (fun c => keep n M (o + c.val)) c := by
  unfold round
  rw [keep_iff, hA]
  constructor
  · rintro ⟨h1, h2⟩
    exact ⟨⟨h1, fun i hi => h2 i (by omega)⟩, fun a ha ⟨hm, hac⟩ => h2 _ (by have : a.val < c.val := hac; omega) ha hm⟩
  · rintro ⟨⟨h1, h2⟩, h3⟩
    refine ⟨h1, fun i hi hk hm => ?_⟩
    by_cases hio : i < o
    · exact h2 i hio hk hm
    · obtain ⟨a, rfl⟩ : ∃ a, i = o + a := ⟨i - o, by omega⟩
      exact h3 ⟨a, by omega⟩ hk ⟨hm, show a < c.val by omega⟩

end Cert.Proof.Nms
-- ==== Proof.Math.Box.lean ====
module

public import Idealize.ShloMosaic.Lib.Pointwise
public import proofs.«01_k».proof.Proof.Math.Nms

@[expose] public section

/-!
# Boxes over the extended reals

A box is its four coordinates `x1, y1, x2, y2`.
-/

namespace Cert.Proof.Box

open Idealize.ShloMosaic

noncomputable section

/-- The suppression threshold, the rational that its float word is. -/
def thr : EReal := Ideal.ofBits .f32 1060320051#32
/-- The least divisor. -/
def tiny : EReal := Ideal.ofBits .f32 730643660#32
/-- One half. -/
def half : EReal := Ideal.ofBits .f32 1056964608#32

def clip (x : EReal) : EReal := min 1 (max 0 x)

/-- The anchor `a` moved by the deltas `d`, its width and height scaled by `e`, clipped. -/
def box (a : Fin 4 → EReal) (d0 d1 e2 e3 : EReal) : Fin 4 → EReal :=
  let w := a 2 - a 0
  let h := a 3 - a 1
  let cx := a 0 + half * w + d0 * w
  let cy := a 1 + half * h + d1 * h
  let w' := w * e2
  let h' := h * e3
  let x := cx - half * w'
  let y := cy - half * h'
  ![clip x, clip y, clip (x + w'), clip (y + h')]

/-- The area. -/
def area (b : Fin 4 → EReal) : EReal := max (b 2 - b 0) 0 * max (b 3 - b 1) 0

/-- The intersection's area. -/
def isct (a b : Fin 4 → EReal) : EReal :=
  max (min (a 2) (b 2) - max (a 0) (b 0)) 0 * max (min (a 3) (b 3) - max (a 1) (b 1)) 0

/-- Intersection over union. -/
def iou (a b : Fin 4 → EReal) : EReal := Ideal.div (isct a b) (max (area a + area b - isct a b) tiny)

/-- Candidate `i` overlaps candidate `j` by more than the threshold. -/
def over (bx : ℕ → Fin 4 → EReal) (i j : ℕ) : Prop := thr < iou (bx i) (bx j)

open Classical

/-- `1` where `p` holds and `0` elsewhere. -/
def ind (p : Prop) : EReal := if p then 1 else 0

/-- Row `p`, coordinate `q` of the result: the kept candidate that is number `p + 1`, or zero. -/
def outAt (bx : ℕ → Fin 4 → EReal) (p : ℕ) (q : Fin 4) : EReal :=
  ∑ j ∈ Finset.range 6144, ind (Nms.cnt 6000 (over bx) j = p + 1 ∧ Nms.keep 6000 (over bx) j) * bx j q

theorem over_congr {bx bx' : ℕ → Fin 4 → EReal} (h : ∀ j < 6000, bx j = bx' j) :
    ∀ i < 6000, ∀ j < 6000, (over bx i j ↔ over bx' i j) := fun i hi j hj => by
  unfold over; rw [h i hi, h j hj]

theorem outAt_congr {bx bx' : ℕ → Fin 4 → EReal} (h : ∀ j < 6000, bx j = bx' j) (p : ℕ) (q : Fin 4) :
    outAt bx p q = outAt bx' p q := by
  unfold outAt
  rw [Nms.cnt_congr (over_congr h), Nms.keep_congr (over_congr h)]
  refine Finset.sum_congr rfl fun j _ => ?_
  by_cases hk : Nms.keep 6000 (over bx') j
  · rw [h j hk.lt]
  · simp [ind, hk]

theorem outAt_eq {bx : ℕ → Fin 4 → EReal} {p j : ℕ} (hk : Nms.keep 6000 (over bx) j) (hc : Nms.cnt 6000 (over bx) j = p + 1)
    (q : Fin 4) : outAt bx p q = bx j q := by
  unfold outAt
  rw [Finset.sum_eq_single j]
  · simp [ind, hk, hc]
  · intro i _ hi
    have : ¬ (Nms.cnt 6000 (over bx) i = p + 1 ∧ Nms.keep 6000 (over bx) i) := fun ⟨h1, h2⟩ =>
      hi (Nms.cnt_inj h2 hk (by omega))
    simp [ind, this]
  · intro h
    exact absurd (Finset.mem_range.2 (by have := hk.lt; omega)) h

theorem outAt_none {bx : ℕ → Fin 4 → EReal} {p : ℕ} (h : ∀ j, ¬ (Nms.keep 6000 (over bx) j ∧ Nms.cnt 6000 (over bx) j = p + 1))
    (q : Fin 4) : outAt bx p q = 0 := by
  unfold outAt
  refine Finset.sum_eq_zero fun j _ => ?_
  have : ¬ (Nms.cnt 6000 (over bx) j = p + 1 ∧ Nms.keep 6000 (over bx) j) := fun ⟨h1, h2⟩ => h j ⟨h2, h1⟩
  simp [ind, this]

theorem ind_mul (p q : Prop) : ind p * ind q = ind (p ∧ q) := by
  unfold ind; by_cases hp : p <;> by_cases hq : q <;> simp [hp, hq]

/-- A sum of indicators counts. -/
theorem sum_ind {ι : Type} (s : Finset ι) (p : ι → Prop) : ∑ i ∈ s, ind (p i) = ((s.filter p).card : EReal) := by
  unfold ind; exact Finset.sum_boole _ _

theorem sum_ind_le_zero {ι : Type} (s : Finset ι) (p : ι → Prop) : ∑ i ∈ s, ind (p i) ≤ 0 ↔ ∀ i ∈ s, ¬ p i := by
  rw [sum_ind, show (0 : EReal) = ((0 : ℕ) : EReal) by simp, EReal.natCast_le_iff, Nat.le_zero, Finset.card_eq_zero,
    Finset.filter_eq_empty_iff]

theorem zero_lt_sum_ind {ι : Type} (s : Finset ι) (p : ι → Prop) : 0 < ∑ i ∈ s, ind (p i) ↔ ∃ i ∈ s, p i := by
  rw [← not_le, sum_ind_le_zero]; push Not; rfl

theorem max_ind (p q : Prop) : max (ind p) (ind q) = ind (p ∨ q) := by
  unfold ind; by_cases hp : p <;> by_cases hq : q <;> simp [hp, hq]

theorem one_sub_ind (p : Prop) : 1 - ind p = ind (¬ p) := by
  unfold ind
  by_cases hp : p
  · simp only [hp, if_true, not_true, if_false]
    exact EReal.sub_self (by decide) (by decide)
  · simp [hp]

theorem ind_inj {p q : Prop} : ind p = ind q ↔ (p ↔ q) := by
  unfold ind; by_cases hp : p <;> by_cases hq : q <;> simp [hp, hq]

/-- The float of a comparison's bit. -/
theorem sitofp_bit (b : BitVec 1) : FloatOps.sitofp (F := Ideal) .f32 (BitVec.setWidth 32 b) = ind (b = 1#1) := by
  have : b = 0#1 ∨ b = 1#1 := by revert b; decide
  unfold ind
  rcases this with rfl | rfl
  · show (((BitVec.setWidth 32 0#1).toInt : ℝ) : EReal) = _
    simp
  · show (((BitVec.setWidth 32 1#1).toInt : ℝ) : EReal) = _
    rw [show (BitVec.setWidth 32 1#1).toInt = 1 by decide]
    simp

end

end Cert.Proof.Box
-- ==== Proof.Ideal.Block.lean ====
module

public import proofs.«01_k».proof.Proof.Ideal.Body
public import proofs.«01_k».proof.Proof.Math.Box
public import Idealize.ShloMosaic.Lib.WritesUnit

@[expose] public section

/-!
# One block of the kernel's scratch buffer, as values
-/

noncomputable section

namespace Cert.Proof.Ideal

open Idealize Idealize.ShloMosaic Idealize.SL Idealize.SL.Sem
open Cert.KernelIdeal Cert.KernelIdeal.Gen
open Cert.Proof.Box Cert.Proof

theorem off1_eq : ∀ k, k0_off1 k = ![0, 512 * k.val] := by decide
theorem off2_eq : ∀ k, k0_off2 k = ![1, 512 * k.val] := by decide
theorem off3_eq : ∀ k, k0_off3 k = ![2, 512 * k.val] := by decide
theorem off4_eq : ∀ k, k0_off4 k = ![3, 512 * k.val] := by decide
theorem off5_eq : ∀ k, k0_off5 k = ![4, 512 * k.val] := by decide
theorem off6_eq : ∀ k, k0_off6 k = ![5, 512 * k.val] := by decide
theorem off7_eq : ∀ k, k0_off7 k = ![6, 512 * k.val] := by decide
theorem t1_trips : k0_t1_loop.trips = 12 := by decide
theorem t2_trips : ∀ k, (k0_t2_loop k).trips = 11 - k.val := by decide
theorem t3_trips : ∀ k, (k0_t3_loop k).trips = 0 := by decide
theorem t4_trips : k0_t4_loop.trips = 12 := by decide
theorem t5_trips : k0_t5_loop.trips = 12 := by decide
set_option maxRecDepth 10000 in
theorem off8_eq : ∀ k t, k0_off8 k t = ![0, 512 * (k.val + 1 + t.val)] := by decide
set_option maxRecDepth 10000 in
theorem off9_eq : ∀ k t, k0_off9 k t = ![1, 512 * (k.val + 1 + t.val)] := by decide
set_option maxRecDepth 10000 in
theorem off10_eq : ∀ k t, k0_off10 k t = ![2, 512 * (k.val + 1 + t.val)] := by decide
set_option maxRecDepth 10000 in
theorem off11_eq : ∀ k t, k0_off11 k t = ![3, 512 * (k.val + 1 + t.val)] := by decide
set_option maxRecDepth 10000 in
theorem off12_eq : ∀ k t, k0_off12 k t = ![4, 512 * (k.val + 1 + t.val)] := by decide
set_option maxRecDepth 10000 in
theorem off13_eq : ∀ k t, k0_off13 k t = ![5, 512 * (k.val + 1 + t.val)] := by decide
theorem off20_eq : ∀ k, k0_off20 k = ![6, 512 * k.val] := by decide
theorem off21_eq : ∀ k, k0_off21 k = ![7, 512 * k.val] := by decide
theorem off22_eq : ∀ k, k0_off22 k = ![7, 512 * k.val] := by decide
theorem off23_eq : ∀ k, k0_off23 k = ![6, 512 * k.val] := by decide
theorem off24_eq : ∀ k, k0_off24 k = ![0, 512 * k.val] := by decide
theorem off25_eq : ∀ k, k0_off25 k = ![1, 512 * k.val] := by decide
theorem off26_eq : ∀ k, k0_off26 k = ![2, 512 * k.val] := by decide
theorem off27_eq : ∀ k, k0_off27 k = ![3, 512 * k.val] := by decide

section Scratch

variable (arg4 : Memref sig .tc .vmem S8x6144 .f32)

/-- The scratch buffer's entry in row `r` and column `j`. -/
def rd (f : BufTy.Contents (Elt Ideal) arg4.view.ty) (r : Fin 8) (j : Fin 6144) : EReal := arg4.view.read (Elt Ideal) f (ix2 r j)

/-- The `1 × 512` load at the given offsets. -/
abbrev ld (f : BufTy.Contents (Elt Ideal) arg4.view.ty) (off : Fin 2 → ℕ) (inb : ∀ a, off a + S1x512.size a ≤ S8x6144.size a) :
    Vec Ideal S1x512 .f32 := arg4.view.readAt (Elt Ideal) (Rect.unit (s := S8x6144) off S1x512.size inb).toLoadRect f

/-- Column `c` of block `k`. -/
def col (k : ℕ) (hk : k < 12) (c : Fin 512) : Fin 6144 := ⟨512 * k + c.val, by omega⟩

theorem ld_apply (f : BufTy.Contents (Elt Ideal) arg4.view.ty) (off : Fin 2 → ℕ) (inb) (r : Fin 8) (k : ℕ) (hk : k < 12)
    (h : off = ![r.val, 512 * k]) (c : Fin 512) : ld arg4 f off inb (ix2 0 c) = rd arg4 f r (col k hk c) := by
  subst h
  refine congrArg (arg4.view.read (Elt Ideal) f) (funext fun a => Fin.ext ?_)
  match a with
  | ⟨0, _⟩ => show r.val + 1 * 0 = r.val; omega
  | ⟨1, _⟩ => show 512 * k + 1 * c.val = 512 * k + c.val; omega

/-- A store of a `1 × 512` block, read back. -/
theorem rd_writes (f : BufTy.Contents (Elt Ideal) arg4.view.ty) (off : Fin 2 → ℕ) (inb : ∀ a, off a + S1x512.size a ≤ S8x6144.size a)
    (w : FVec Ideal S1x512 .f32) (L : List (View.Piece (Elt Ideal) S8x6144 .f32)) (r₀ : Fin 8) (k : ℕ) (h : off = ![r₀.val, 512 * k])
    (r : Fin 8) (j : Fin 6144) :
    rd arg4 (arg4.view.writes (Elt Ideal) f (⟨Rect.unit (s := S8x6144) off S1x512.size inb, w⟩ :: L)) r j
      = if h : r = r₀ ∧ 512 * k ≤ j.val ∧ j.val < 512 * k + 512 then w (ix2 0 ⟨j.val - 512 * k, by omega⟩)
        else rd arg4 (arg4.view.writes (Elt Ideal) f L) r j := by
  unfold rd
  split_ifs with hc
  · obtain ⟨rfl, h1, h2⟩ := hc
    refine View.read_writes_cons_unit_of_mem arg4.view f inb w L _ _ h fun a => ?_
    match a with
    | ⟨0, _⟩ => show r.val = r.val + 0; omega
    | ⟨1, _⟩ => show j.val = 512 * k + (j.val - 512 * k); omega
  · by_cases hr : r = r₀
    · refine View.read_writes_cons_unit_of_not_mem arg4.view f inb w L _ h 1 ?_
      show j.val < 512 * k ∨ 512 * k + 512 ≤ j.val
      by_contra hh
      exact hc ⟨hr, by omega, by omega⟩
    · refine View.read_writes_cons_unit_of_not_mem arg4.view f inb w L _ h 0 ?_
      show r.val < r₀.val ∨ r₀.val + 1 ≤ r.val
      have : r.val ≠ r₀.val := fun e => hr (Fin.ext e)
      omega

end Scratch

section Trip

variable (c : Dev nD) (i : grid0.Coords) (arg1 : Memref sig .tc .vmem S1x4x6144 .f32) (harg1 : arg1.IsWhole)
    (arg2 : Memref sig .tc .vmem S1x4x6144 .f32) (harg2 : arg2.IsWhole) (arg3 : Memref sig .tc .vmem S1x1000x4 .f32) (harg3 : arg3.IsWhole)
    (arg4 : Memref sig .tc .vmem S8x6144 .f32) (harg4 : arg4.IsWhole) (v53 : FVec Ideal S6144 .f32) (v60 : FVec Ideal S6144 .f32)

/-- The block's overlaps with itself. -/
def msk (k : Fin k0_t1_loop.trips) (f : BufTy.Contents (Elt Ideal) arg4.view.ty) : FVec Ideal S512x512 .f32 :=
  k0_pay40 (k0_pay11 (ld arg4 f (k0_off5 k) (k0_off5_inb k))) (k0_pay13 (ld arg4 f (k0_off1 k) (k0_off1_inb k)))
    (k0_pay14 (ld arg4 f (k0_off2 k) (k0_off2_inb k))) (k0_pay15 (ld arg4 f (k0_off3 k) (k0_off3_inb k)))
    (k0_pay16 (ld arg4 f (k0_off4 k) (k0_off4_inb k))) (k0_pay17 (ld arg4 f (k0_off4 k) (k0_off4_inb k)))

/-- The block's candidates that no earlier block suppressed. -/
def alv (k : Fin k0_t1_loop.trips) (f : BufTy.Contents (Elt Ideal) arg4.view.ty) : FVec Ideal S1x512 .f32 :=
  k0_pay12 0#32 1#32 k (ld arg4 f (k0_off6 k) (k0_off6_inb k))

/-- The block's choice. -/
def sfin (k : Fin k0_t1_loop.trips) (f : BufTy.Contents (Elt Ideal) arg4.view.ty) : FVec Ideal S1x512 .f32 :=
  (whl (msk arg4 k f) (alv arg4 k f) 514 (alv arg4 k f) 1#1).1

/-- The contents once the block's choice is stored. -/
def chosen (k : Fin k0_t1_loop.trips) (f : BufTy.Contents (Elt Ideal) arg4.view.ty) : BufTy.Contents (Elt Ideal) arg4.view.ty :=
  arg4.view.writes (Elt Ideal) f [⟨Rect.unit (s := S8x6144) (k0_off7 k) S1x512.size (k0_off7_inb k), k0_pay41 (sfin arg4 k f)⟩]

/-- The later blocks' stores, the first `n`. -/
def later (k : Fin k0_t1_loop.trips) (f : BufTy.Contents (Elt Ideal) arg4.view.ty) (n : ℕ) :=
  (st_k0_t2 𝒱₀ c none i arg1 harg1 arg2 harg2 arg3 harg3 arg4 harg4 v53 v60 k
    (k0_pay7 (ld arg4 f (k0_off1 k) (k0_off1_inb k))) (k0_pay8 (ld arg4 f (k0_off2 k) (k0_off2_inb k)))
    (k0_pay9 (ld arg4 f (k0_off3 k) (k0_off3_inb k))) (k0_pay10 (ld arg4 f (k0_off4 k) (k0_off4_inb k)))
    (k0_pay11 (ld arg4 f (k0_off5 k) (k0_off5_inb k))) (sfin arg4 k f) (trip1.sl.v181 k) (chosen arg4 k f) 0#32 n).2

theorem t3_none (k : Fin k0_t1_loop.trips) (f : BufTy.Contents (Elt Ideal) arg4.view.ty) (L) (v1 v2 v3 v4 v5 v6 v7 G a) : ∀ n, n = 0 →
    arg4.view.writes (Elt Ideal) f ((st_k0_t3 𝒱₀ c none i arg1 harg1 arg2 harg2 arg3 harg3 arg4 harg4 v53 v60 k
      v1 v2 v3 v4 v5 v6 v7 G a n).2 ++ L) = arg4.view.writes (Elt Ideal) f L := by
  rintro n rfl; rfl

theorem trip1_eq (k : Fin k0_t1_loop.trips) (f : BufTy.Contents (Elt Ideal) arg4.view.ty) :
    (trip1 c i arg1 harg1 arg2 harg2 arg3 harg3 arg4 harg4 v53 v60 k).1 f
      = arg4.view.writes (Elt Ideal) (chosen arg4 k f)
          (later c i arg1 harg1 arg2 harg2 arg3 harg3 arg4 harg4 v53 v60 k f (k0_t2_loop k).trips) := by
  unfold trip1
  dsimp only
  refine (t3_none c i arg1 harg1 arg2 harg2 arg3 harg3 arg4 harg4 v53 v60 k f _ _ _ _ _ _ _ _ _ _ _ (t3_trips k)).trans ?_
  rw [View.writes_append]
  rfl

theorem tripL2_eq (k : Fin k0_t1_loop.trips) (v1 v2 v3 v4 v5 : FVec Ideal S512 .f32) (s : FVec Ideal S1x512 .f32) (w : BitVec 32)
    (t : Fin (k0_t2_loop k).trips) (a : BitVec 32) (f : BufTy.Contents (Elt Ideal) arg4.view.ty) :
    tripL_k0_t2 𝒱₀ c none i arg1 harg1 arg2 harg2 arg3 harg3 arg4 harg4 v53 v60 k v1 v2 v3 v4 v5 s w t a f
      = [⟨Rect.unit (s := S8x6144) (k0_off13 k t) S1x512.size (k0_off13_inb k t),
          k0_pay42 s (k0_pay3 v1 v2 v3 v4 (ld arg4 f (k0_off8 k t) (k0_off8_inb k t)) (ld arg4 f (k0_off9 k t) (k0_off9_inb k t))
              (ld arg4 f (k0_off10 k t) (k0_off10_inb k t)) (ld arg4 f (k0_off11 k t) (k0_off11_inb k t)))
            (k0_pay4 v1 v2 v3 v4 v5 (ld arg4 f (k0_off8 k t) (k0_off8_inb k t)) (ld arg4 f (k0_off9 k t) (k0_off9_inb k t))
              (ld arg4 f (k0_off10 k t) (k0_off10_inb k t)) (ld arg4 f (k0_off11 k t) (k0_off11_inb k t))
              (ld arg4 f (k0_off12 k t) (k0_off12_inb k t)))
            (Scalar.ofBits .f32 0x2B8CBCCC#32) (ld arg4 f (k0_off13 k t) (k0_off13_inb k t))⟩] := by
  unfold tripL_k0_t2 trip_k0_t2
  rfl

theorem tripL4_eq (k : Fin k0_t4_loop.trips) (a : EReal) (f : BufTy.Contents (Elt Ideal) arg4.view.ty) :
    tripL_k0_t4 𝒱₀ c none i arg1 harg1 arg2 harg2 arg3 harg3 arg4 harg4 v53 v60 k a f
      = [⟨Rect.unit (s := S8x6144) (k0_off21 k) S1x512.size (k0_off21_inb k),
          k0_pay45 (F := Ideal) a (ld arg4 f (k0_off20 k) (k0_off20_inb k))⟩] := by
  unfold tripL_k0_t4 trip_k0_t4
  rfl

theorem tripR4_eq (k : Fin k0_t4_loop.trips) (a : EReal) (f : BufTy.Contents (Elt Ideal) arg4.view.ty) :
    tripR_k0_t4 𝒱₀ c none i arg1 harg1 arg2 harg2 arg3 harg3 arg4 harg4 v53 v60 k a f
      = k0_pay46 (F := Ideal) a (ld arg4 f (k0_off20 k) (k0_off20_inb k)) := by
  unfold tripR_k0_t4 trip_k0_t4
  rfl

theorem tripR5_eq (k : Fin k0_t5_loop.trips) (a : FVec Ideal S1024x4 .f32) (f : BufTy.Contents (Elt Ideal) arg4.view.ty) :
    tripR_k0_t5 𝒱₀ c none i arg1 harg1 arg2 harg2 arg3 harg3 arg4 harg4 v53 v60 f k a
      = k0_pay48 a (ld arg4 f (k0_off22 k) (k0_off22_inb k)) (ld arg4 f (k0_off23 k) (k0_off23_inb k))
          (ld arg4 f (k0_off24 k) (k0_off24_inb k)) (ld arg4 f (k0_off25 k) (k0_off25_inb k))
          (ld arg4 f (k0_off26 k) (k0_off26_inb k)) (ld arg4 f (k0_off27 k) (k0_off27_inb k)) := by
  unfold tripR_k0_t5 trip_k0_t5
  rfl

end Trip

end Cert.Proof.Ideal
-- ==== Proof.Ideal.Payload.lean ====
module

public import proofs.«01_k».proof.Proof.Ideal.Block
public import Idealize.ShloMosaic.Lib.WordCmp

@[expose] public section

/-!
# The kernel's vector values, entry by entry
-/

noncomputable section

namespace Cert.Proof.Ideal

open Idealize Idealize.ShloMosaic Idealize.SL Idealize.SL.Sem
open Cert.KernelIdeal Cert.KernelIdeal.Gen
open Cert.Proof.Box Cert.Proof Idealize.ShloMosaic.WordCmp

theorem sitofp_dec (p : Prop) [Decidable p] :
    FloatOps.sitofp (F := Ideal) .f32 (BitVec.setWidth 32 (BitVec.ofBool (decide p))) = ind p := by
  rw [sitofp_bit, ind_inj]
  by_cases h : p <;> simp [h]

theorem sitofp_slt (a b : ℕ) (ha : a < 2 ^ 31) (hb : b < 2 ^ 31) :
    FloatOps.sitofp (F := Ideal) .f32 (BitVec.setWidth 32 (IntOp.cmpi .slt (BitVec.ofNat 32 a) (BitVec.ofNat 32 b))) = ind (a < b) := by
  rw [sitofp_bit, ind_inj, cmpi_slt_ofNat_eq_one_iff ha hb]

theorem sitofp_sle (a b : ℕ) (ha : a < 2 ^ 31) (hb : b < 2 ^ 31) :
    FloatOps.sitofp (F := Ideal) .f32 (BitVec.setWidth 32 (IntOp.cmpi .sle (BitVec.ofNat 32 a) (BitVec.ofNat 32 b))) = ind (a ≤ b) := by
  rw [sitofp_bit, ind_inj, cmpi_sle_ofNat_eq_one_iff ha hb]

/-- One round of the in-block iteration. -/
theorem pay1_apply {ms : FVec Ideal S512x512 .f32} {al s : FVec Ideal S1x512 .f32} {m : Fin 512 → Fin 512 → Prop} {A S : Fin 512 → Prop}
    (hm : ∀ a c, ms (ix2 a c) = ind (m a c ∧ a < c)) (hA : ∀ c, al (ix2 0 c) = ind (A c)) (hS : ∀ c, s (ix2 0 c) = ind (S c))
    (c : Fin 512) : k0_pay1 ms al s (ix2 0 c) = ind (Nms.round A m S c) := by
  pointwise [k0_pay1]
  rw [sitofp_dec, hA, ind_mul, ind_inj]
  unfold Nms.round
  refine and_congr_right fun _ => ?_
  simp only [hS, hm, ind_mul]
  rw [sum_ind_le_zero]
  constructor
  · intro h a ha hm'; exact h a (Finset.mem_univ _) ⟨ha, hm'⟩
  · rintro h a - ⟨ha, hm'⟩; exact h a ha hm'

/-- The round's change is noticed. -/
theorem pay2_apply (ms : FVec Ideal S512x512 .f32) (al s : FVec Ideal S1x512 .f32)
    (h : Scalar.cmpf (F := Ideal) .ogt (k0_pay2 ms al s) (Scalar.ofBits .f32 0x00000000#32) ≠ 1#1) (c : Fin 512) :
    k0_pay1 ms al s (ix2 0 c) = s (ix2 0 c) := by
  by_contra hne
  apply h
  have h1 : (0 : EReal) < k0_pay2 ms al s := by
    pointwise [k0_pay2]
    rw [Finset.lt_fold_max]
    right
    refine ⟨(0, c), Finset.mem_univ _, ?_⟩
    rw [if_pos hne]
    exact zero_lt_one
  have h2 : Scalar.cmpf (F := Ideal) .ogt (k0_pay2 ms al s) (Scalar.ofBits .f32 0x00000000#32)
      = BitVec.ofBool (decide ((0 : EReal) < k0_pay2 ms al s)) := by
    pointwise
  rw [h2]; simp [h1]

/-- The in-block iteration ends at the block's choice `K`. -/
theorem whl_apply {ms : FVec Ideal S512x512 .f32} {al : FVec Ideal S1x512 .f32} {m : Fin 512 → Fin 512 → Prop} {A K : Fin 512 → Prop}
    (hm : ∀ a c, ms (ix2 a c) = ind (m a c ∧ a < c)) (hA : ∀ c, al (ix2 0 c) = ind (A c)) (hK : ∀ c, K c ↔ Nms.round A m K c) :
    ∀ (n : ℕ) (s : FVec Ideal S1x512 .f32) (b : BitVec 1) (S : Fin 512 → Prop), n ≤ 514 → (∀ c, s (ix2 0 c) = ind (S c)) →
      (∀ c : Fin 512, c.val < 514 - n → (S c ↔ K c)) → (b = 1#1 ∨ ∀ c, S c ↔ Nms.round A m S c) →
      ∀ c, (whl ms al n s b).1 (ix2 0 c) = ind (K c) := by
  intro n
  induction n with
  | zero =>
    intro s b S _ hS hag _ c
    rw [whl_zero]
    show s (ix2 0 c) = _
    rw [hS, ind_inj]
    exact hag c (by omega)
  | succ n ih =>
    intro s b S hn hS hag hb c
    rw [whl_succ]
    split_ifs with hc
    · refine ih _ _ (Nms.round A m S) (by omega) (pay1_apply hm hA hS) ?_ ?_ c
      · intro c hc'
        exact Nms.round_agree hK hag c (by omega)
      · by_cases h1 : Scalar.cmpf (F := Ideal) .ogt (k0_pay2 ms al s) (Scalar.ofBits .f32 0x00000000#32) = 1#1
        · exact .inl h1
        · right
          have heq : Nms.round A m S = S := by
            funext c
            have := pay2_apply ms al s h1 c
            rw [pay1_apply hm hA hS, hS, ind_inj] at this
            exact propext this
          intro c
          rw [heq, heq]
    · have hb1 : b ≠ 1#1 := by
        rintro rfl
        apply hc
        have : Scalar.cmpi .slt (BitVec.ofNat 32 (514 - (n + 1))) 514#32 = 1#1 :=
          (cmpi_slt_ofNat_eq_one_iff (w := 32) (a := 514 - (n + 1)) (b := 514) (by omega) (by omega)).2 (by omega)
        rw [this]; rfl
      show s (ix2 0 c) = _
      rw [hS, ind_inj]
      exact Nms.round_unique hK (hb.resolve_left hb1) c

/-- The block's overlaps with itself, from its rows. -/
theorem pay40_apply (y0 y1 y2 y3 y4 : Vec Ideal S1x512 .f32) (b : Fin 512 → Fin 4 → EReal)
    (h0 : ∀ c, y0 (ix2 0 c) = b c 0) (h1 : ∀ c, y1 (ix2 0 c) = b c 1) (h2 : ∀ c, y2 (ix2 0 c) = b c 2) (h3 : ∀ c, y3 (ix2 0 c) = b c 3)
    (h4 : ∀ c, y4 (ix2 0 c) = area (b c)) (a c : Fin 512) :
    k0_pay40 (F := Ideal) (k0_pay11 y4) (k0_pay13 y0) (k0_pay14 y1) (k0_pay15 y2) (k0_pay16 y3) (k0_pay17 y3) (ix2 a c)
      = ind (thr < iou (b a) (b c) ∧ a < c) := by
  pointwise [k0_pay40, k0_pay11, k0_pay13, k0_pay14, k0_pay15, k0_pay16, k0_pay17, k0_pay7, k0_pay8, k0_pay9, k0_pay10]
  rw [sitofp_dec, sitofp_slt _ _ (by omega) (by omega), ind_mul]
  simp only [h0, h1, h2, h3, h4]
  rfl

/-- The candidates of the block that are still there. -/
theorem pay12_apply (k : Fin k0_t1_loop.trips) (y : Vec Ideal S1x512 .f32) (P : Fin 512 → Prop) (h : ∀ c, y (ix2 0 c) = ind (P c))
    (c : Fin 512) : k0_pay12 (F := Ideal) 0#32 1#32 k y (ix2 0 c) = ind (¬ P c ∧ 512 * k.val + c.val < 6000) := by
  have hk : k.val < 12 := lt_of_lt_of_eq k.isLt t1_trips
  pointwise [k0_pay12]
  rw [h, one_sub_ind]
  have : IntOp.addi (Scalar.muli (Scf.iv 0#32 1#32 k) 512#32) (BitVec.ofNat 32 c.val) = BitVec.ofNat 32 (512 * k.val + c.val) := by
    apply BitVec.eq_of_toNat_eq
    simp [IntOp.addi, Scalar.muli, IntOp.muli, Scf.iv, BitVec.toNat_add, BitVec.toNat_mul]
    omega
  rw [this, sitofp_slt _ _ (by omega) (by omega), ind_mul]

/-- The later block's suppressed candidates, with those that this block's choice suppresses. -/
theorem pay42_apply (s : FVec Ideal S1x512 .f32) (x0 x1 x2 x3 x4 y0 y1 y2 y3 y4 y5 : Vec Ideal S1x512 .f32) (a b : Fin 512 → Fin 4 → EReal)
    (S P : Fin 512 → Prop) (hs : ∀ c, s (ix2 0 c) = ind (S c)) (hP : ∀ c, y5 (ix2 0 c) = ind (P c))
    (g0 : ∀ c, x0 (ix2 0 c) = a c 0) (g1 : ∀ c, x1 (ix2 0 c) = a c 1) (g2 : ∀ c, x2 (ix2 0 c) = a c 2) (g3 : ∀ c, x3 (ix2 0 c) = a c 3)
    (g4 : ∀ c, x4 (ix2 0 c) = area (a c))
    (h0 : ∀ c, y0 (ix2 0 c) = b c 0) (h1 : ∀ c, y1 (ix2 0 c) = b c 1) (h2 : ∀ c, y2 (ix2 0 c) = b c 2) (h3 : ∀ c, y3 (ix2 0 c) = b c 3)
    (h4 : ∀ c, y4 (ix2 0 c) = area (b c)) (c : Fin 512) :
    k0_pay42 (F := Ideal) s (k0_pay3 (k0_pay7 x0) (k0_pay8 x1) (k0_pay9 x2) (k0_pay10 x3) y0 y1 y2 y3)
      (k0_pay4 (k0_pay7 x0) (k0_pay8 x1) (k0_pay9 x2) (k0_pay10 x3) (k0_pay11 x4) y0 y1 y2 y3 y4) (Scalar.ofBits .f32 0x2B8CBCCC#32) y5 (ix2 0 c)
      = ind (P c ∨ ∃ r, S r ∧ thr < iou (a r) (b c)) := by
  pointwise [k0_pay42, k0_pay3, k0_pay4, k0_pay7, k0_pay8, k0_pay9, k0_pay10, k0_pay11]
  simp only [sitofp_dec, hs, hP, g0, g1, g2, g3, g4, h0, h1, h2, h3, h4, ind_mul]
  rw [zero_lt_sum_ind, Box.max_ind, ind_inj]
  simp only [Finset.mem_univ, true_and]
  rfl

theorem pay41_apply (s : FVec Ideal S1x512 .f32) (c : Fin 512) : k0_pay41 s (ix2 0 c) = s (ix2 0 c) := by
  pointwise [k0_pay41]

/-- The running count within a block. -/
theorem pay45_apply (a : EReal) (y : Vec Ideal S1x512 .f32) (S : Fin 512 → Prop) (h : ∀ c, y (ix2 0 c) = ind (S c)) (c : Fin 512) :
    k0_pay45 (F := Ideal) a y (ix2 0 c) = ∑ r : Fin 512, ind (S r ∧ r.val ≤ c.val) + a := by
  pointwise [k0_pay45, k0_pay44]
  refine congrArg (· + a) (Finset.sum_congr rfl fun r _ => ?_)
  rw [h, sitofp_sle _ _ (by omega) (by omega), ind_mul]

theorem pay46_apply (a : EReal) (y : Vec Ideal S1x512 .f32) (S : Fin 512 → Prop) (h : ∀ c, y (ix2 0 c) = ind (S c)) :
    k0_pay46 (F := Ideal) a y = a + ∑ r : Fin 512, ind (S r) := by
  pointwise [k0_pay46, k0_pay44]
  simp [h]

/-- One block's share of the result. -/
theorem pay48_apply (v : FVec Ideal S1024x4 .f32) (n s y0 y1 y2 y3 : Vec Ideal S1x512 .f32) (N : Fin 512 → ℕ) (S : Fin 512 → Prop)
    (b : Fin 512 → Fin 4 → EReal) (hn : ∀ c, n (ix2 0 c) = (N c : EReal)) (hs : ∀ c, s (ix2 0 c) = ind (S c))
    (h0 : ∀ c, y0 (ix2 0 c) = b c 0) (h1 : ∀ c, y1 (ix2 0 c) = b c 1) (h2 : ∀ c, y2 (ix2 0 c) = b c 2) (h3 : ∀ c, y3 (ix2 0 c) = b c 3)
    (p : Fin 1024) (q : Fin 4) :
    k0_pay48 (F := Ideal) v n s y0 y1 y2 y3 (ix2 p q) = v (ix2 p q) + ∑ c : Fin 512, ind (N c = p.val + 1 ∧ S c) * b c q := by
  pointwise [k0_pay48]
  refine congrArg (_ + ·) (Finset.sum_congr rfl fun c _ => ?_)
  rw [sitofp_dec, hs, hn, h0, h1, h2, h3, ind_mul]
  have hp : FloatOps.sitofp (F := Ideal) .f32 (BitVec.ofNat 32 p.val) = (p.val : EReal) := by
    show (((BitVec.ofNat 32 p.val).toInt : ℝ) : EReal) = _
    rw [toInt_ofNat_of_lt (by omega)]; simp
  rw [hp]
  have e1 : ((p.val : EReal) + 1 = (N c : EReal)) ↔ (N c = p.val + 1) := by
    rw [show ((p.val : EReal) + 1) = ((p.val + 1 : ℕ) : EReal) by push_cast; rfl, EReal.natCast_eq_iff]
    exact eq_comm
  congr 1
  · rw [ind_inj, e1]
  · match q with
    | ⟨0, _⟩ => simp
    | ⟨1, _⟩ => simp
    | ⟨2, _⟩ => simp
    | ⟨3, _⟩ => simp

theorem pay47_apply (p : Fin 1024) (q : Fin 4) : k0_pay47 (F := Ideal) (ix2 p q) = 0 := by
  pointwise [k0_pay47]

theorem pay49_apply (v : FVec Ideal S1024x4 .f32) (p : Fin 1000) (q : Fin 4) :
    k0_pay49 (F := Ideal) v (ix3 0 p q) = v (ix2 ⟨p.val, by omega⟩ q) := by
  pointwise [k0_pay49]

end Cert.Proof.Ideal
-- ==== Proof.Ideal.Invariant.lean ====
module

public import proofs.«01_k».proof.Proof.Ideal.Payload

@[expose] public section

/-!
# What the scratch buffer holds: the blocked choice is the greedy one
-/

noncomputable section

namespace Cert.Proof.Ideal

open Idealize Idealize.ShloMosaic Idealize.SL Idealize.SL.Sem
open Cert.KernelIdeal Cert.KernelIdeal.Gen
open Cert.Proof.Box Cert.Proof

/-- The kept candidates among the boxes `bx`. -/
abbrev kp (bx : ℕ → Fin 4 → EReal) (j : ℕ) : Prop := Nms.keep 6000 (over bx) j
/-- Candidate `j` overlaps a kept candidate before `n`. -/
abbrev sup (bx : ℕ → Fin 4 → EReal) (n j : ℕ) : Prop := ∃ i < n, kp bx i ∧ over bx i j

section Inv

variable (arg4 : Memref sig .tc .vmem S8x6144 .f32) (bx : ℕ → Fin 4 → EReal)

/-- The buffer once the first `n` candidates are decided; the suppressed ones are up to date with the first `o` kept
    candidates up to candidate `u`, and with the first `n` before it. -/
structure Inv (o n u : ℕ) (f : BufTy.Contents (Elt Ideal) arg4.view.ty) : Prop where
  box : ∀ (j : Fin 6144) (q : Fin 4), rd arg4 f ⟨q.val, by omega⟩ j = bx j.val q
  area : ∀ j : Fin 6144, rd arg4 f 4 j = area (bx j.val)
  kept : ∀ j : Fin 6144, j.val < n → rd arg4 f 6 j = ind (kp bx j.val)
  late : ∀ j : Fin 6144, n ≤ j.val → rd arg4 f 5 j = ind (if j.val < u then sup bx n j.val else sup bx o j.val)

variable {arg4 bx}

theorem Inv.ld_box {o n u : ℕ} {f} (h : Inv arg4 bx o n u f) (off : Fin 2 → ℕ) (inb) (q : Fin 4) (k : ℕ) (hk : k < 12)
    (ho : off = ![q.val, 512 * k]) (c : Fin 512) : ld arg4 f off inb (ix2 0 c) = bx (512 * k + c.val) q := by
  rw [ld_apply arg4 f off inb ⟨q.val, by omega⟩ k hk ho c, h.box]; rfl

theorem Inv.ld_area {o n u : ℕ} {f} (h : Inv arg4 bx o n u f) (off : Fin 2 → ℕ) (inb) (k : ℕ) (hk : k < 12)
    (ho : off = ![4, 512 * k]) (c : Fin 512) : ld arg4 f off inb (ix2 0 c) = Box.area (bx (512 * k + c.val)) := by
  rw [ld_apply arg4 f off inb 4 k hk ho c, h.area]; rfl

theorem Inv.ld_late {o n u : ℕ} {f} (h : Inv arg4 bx o n u f) (off : Fin 2 → ℕ) (inb) (k : ℕ) (hk : k < 12)
    (ho : off = ![5, 512 * k]) (hn : n ≤ 512 * k) (hu : u ≤ 512 * k) (c : Fin 512) :
    ld arg4 f off inb (ix2 0 c) = ind (sup bx o (512 * k + c.val)) := by
  rw [ld_apply arg4 f off inb 5 k hk ho c, h.late _ (by show n ≤ 512 * k + c.val; omega), if_neg (by show ¬ 512 * k + c.val < u; omega)]; rfl

theorem Inv.ld_kept {o n u : ℕ} {f} (h : Inv arg4 bx o n u f) (off : Fin 2 → ℕ) (inb) (k : ℕ) (hk : k < 12)
    (ho : off = ![6, 512 * k]) (hn : 512 * k + 512 ≤ n) (c : Fin 512) :
    ld arg4 f off inb (ix2 0 c) = ind (kp bx (512 * k + c.val)) := by
  rw [ld_apply arg4 f off inb 6 k hk ho c, h.kept _ (by show 512 * k + c.val < n; omega)]; rfl

end Inv

theorem lt12 (k : Fin k0_t1_loop.trips) : k.val < 12 := lt_of_lt_of_eq k.isLt t1_trips

section Trip

variable (c : Dev nD) (i : grid0.Coords) (arg1 : Memref sig .tc .vmem S1x4x6144 .f32) (harg1 : arg1.IsWhole)
    (arg2 : Memref sig .tc .vmem S1x4x6144 .f32) (harg2 : arg2.IsWhole) (arg3 : Memref sig .tc .vmem S1x1000x4 .f32) (harg3 : arg3.IsWhole)
    (arg4 : Memref sig .tc .vmem S8x6144 .f32) (harg4 : arg4.IsWhole) (v53 : FVec Ideal S6144 .f32) (v60 : FVec Ideal S6144 .f32)
    (bx : ℕ → Fin 4 → EReal)

/-- The block's choice is the greedy one. -/
theorem sfin_apply (k : Fin k0_t1_loop.trips) (f : BufTy.Contents (Elt Ideal) arg4.view.ty)
    (h : Inv arg4 bx (512 * k.val) (512 * k.val) 0 f) (cc : Fin 512) :
    sfin arg4 k f (ix2 0 cc) = ind (kp bx (512 * k.val + cc.val)) := by
  have hk := lt12 k
  have hA : ∀ cc, alv arg4 k f (ix2 0 cc) = ind (¬ sup bx (512 * k.val) (512 * k.val + cc.val) ∧ 512 * k.val + cc.val < 6000) := fun cc =>
    pay12_apply k _ _ (fun c => h.ld_late _ _ k.val hk (off6_eq k) le_rfl (Nat.zero_le _) c) cc
  have hm : ∀ a cc, msk arg4 k f (ix2 a cc) = ind (over bx (512 * k.val + a.val) (512 * k.val + cc.val) ∧ a < cc) := fun a cc =>
    pay40_apply _ _ _ _ _ (fun c => bx (512 * k.val + c.val)) (h.ld_box _ _ 0 k.val hk (off1_eq k)) (h.ld_box _ _ 1 k.val hk (off2_eq k))
      (h.ld_box _ _ 2 k.val hk (off3_eq k)) (h.ld_box _ _ 3 k.val hk (off4_eq k)) (h.ld_area _ _ k.val hk (off5_eq k)) a cc
  refine whl_apply hm hA (K := fun cc => kp bx (512 * k.val + cc.val)) (fun cc => ?_) 514 _ _ _ le_rfl hA (fun c hc => absurd hc (by omega))
    (.inl rfl) cc
  refine Nms.keep_round (512 * k.val) _ (fun c => ?_) cc
  constructor
  · rintro ⟨h1, h2⟩
    exact ⟨h2, fun i hi hki hM => h1 ⟨i, hi, hki, hM⟩⟩
  · rintro ⟨h1, h2⟩
    exact ⟨fun ⟨i, hi, hki, hM⟩ => h2 i hi hki hM, h1⟩

theorem chosen_inv (k : Fin k0_t1_loop.trips) (f : BufTy.Contents (Elt Ideal) arg4.view.ty)
    (h : Inv arg4 bx (512 * k.val) (512 * k.val) 0 f) :
    Inv arg4 bx (512 * k.val) (512 * k.val + 512) (512 * k.val + 512) (chosen arg4 k f) := by
  have hk := lt12 k
  have hr := rd_writes arg4 f (k0_off7 k) (k0_off7_inb k) (k0_pay41 (sfin arg4 k f)) [] 6 k.val (off7_eq k)
  have hne : ∀ r : Fin 8, r ≠ 6 → ∀ j, rd arg4 (chosen arg4 k f) r j = rd arg4 f r j := fun r hr6 j => by
    unfold chosen; rw [hr, dif_neg (fun hh => hr6 hh.1)]; rfl
  constructor
  · intro j q
    rw [hne _ (fun e => by have := congrArg Fin.val e; simp at this; omega), h.box]
  · intro j
    rw [hne _ (by decide), h.area]
  · intro j hj
    unfold chosen
    rw [hr]
    split_ifs with hh
    · rw [pay41_apply, sfin_apply arg4 bx k f h]
      congr 2
      show 512 * k.val + (j.val - 512 * k.val) = j.val
      omega
    · show rd arg4 f 6 j = _
      exact h.kept j (by by_contra hc; exact hh ⟨rfl, by omega, by omega⟩)
  · intro j hj
    rw [hne _ (by decide), h.late j (by omega), if_neg (by omega), if_neg (by omega)]

/-- Updating a later block. -/
theorem later_inv (k : Fin k0_t1_loop.trips) (f : BufTy.Contents (Elt Ideal) arg4.view.ty)
    (h : Inv arg4 bx (512 * k.val) (512 * k.val) 0 f) : ∀ n : ℕ, n ≤ (k0_t2_loop k).trips →
    Inv arg4 bx (512 * k.val) (512 * k.val + 512) (512 * (k.val + 1 + n))
      (arg4.view.writes (Elt Ideal) (chosen arg4 k f) (later c i arg1 harg1 arg2 harg2 arg3 harg3 arg4 harg4 v53 v60 k f n)) := by
  intro n
  have hk := lt12 k
  induction n with
  | zero => intro _; rw [show 512 * (k.val + 1 + 0) = 512 * k.val + 512 by omega]; exact chosen_inv arg4 bx k f h
  | succ n ih =>
    intro hn
    have ih := ih (by omega)
    have hn' : k.val + 1 + n < 12 := by rw [t2_trips] at hn; omega
    unfold later at ih ⊢
    rw [st_k0_t2_succ _ _ _ _ _ _ _ _ _ _ _ _ _ _ _ _ _ _ _ _ _ _ _ _ (⟨n, hn⟩ : Fin (k0_t2_loop k).trips), tripL2_eq]
    dsimp only at ih ⊢
    generalize (st_k0_t2 𝒱₀ c none i arg1 harg1 arg2 harg2 arg3 harg3 arg4 harg4 v53 v60 k
      (k0_pay7 (ld arg4 f (k0_off1 k) (k0_off1_inb k))) (k0_pay8 (ld arg4 f (k0_off2 k) (k0_off2_inb k)))
      (k0_pay9 (ld arg4 f (k0_off3 k) (k0_off3_inb k))) (k0_pay10 (ld arg4 f (k0_off4 k) (k0_off4_inb k)))
      (k0_pay11 (ld arg4 f (k0_off5 k) (k0_off5_inb k))) (sfin arg4 k f) (trip1.sl.v181 k) (chosen arg4 k f) 0#32 n).2 = L at ih ⊢
    rw [List.singleton_append]
    have hr := fun w => rd_writes arg4 (chosen arg4 k f) (k0_off13 k ⟨n, hn⟩) (k0_off13_inb k ⟨n, hn⟩) w L 5 (k.val + 1 + n) (off13_eq k ⟨n, hn⟩)
    constructor
    · intro j q
      rw [hr, dif_neg (fun hh => by have := congrArg Fin.val hh.1; simp at this; omega), ih.box]
    · intro j
      rw [hr, dif_neg (fun hh => absurd hh.1 (by decide)), ih.area]
    · intro j hj
      rw [hr, dif_neg (fun hh => absurd hh.1 (by decide)), ih.kept j hj]
    · intro j hj
      rw [hr]
      split_ifs with hh hlt hlt
      · obtain ⟨-, h1, h2⟩ := hh
        rw [pay42_apply (sfin arg4 k f) _ _ _ _ _ _ _ _ _ _ _ (fun c => bx (512 * k.val + c.val)) (fun c => bx (512 * (k.val + 1 + n) + c.val))
          _ _ (sfin_apply arg4 bx k f h) (fun c => ih.ld_late _ _ _ hn' (off13_eq k ⟨n, hn⟩) (by omega) (by omega) c)
          (h.ld_box _ _ 0 k.val hk (off1_eq k)) (h.ld_box _ _ 1 k.val hk (off2_eq k))
          (h.ld_box _ _ 2 k.val hk (off3_eq k)) (h.ld_box _ _ 3 k.val hk (off4_eq k)) (h.ld_area _ _ k.val hk (off5_eq k))
          (ih.ld_box _ _ 0 _ hn' (off8_eq k ⟨n, hn⟩)) (ih.ld_box _ _ 1 _ hn' (off9_eq k ⟨n, hn⟩))
          (ih.ld_box _ _ 2 _ hn' (off10_eq k ⟨n, hn⟩)) (ih.ld_box _ _ 3 _ hn' (off11_eq k ⟨n, hn⟩)) (ih.ld_area _ _ _ hn' (off12_eq k ⟨n, hn⟩)),
          ind_inj]
        dsimp only
        rw [show 512 * (k.val + 1 + n) + (j.val - 512 * (k.val + 1 + n)) = j.val by omega]
        constructor
        · rintro (⟨i, hi, hki, hM⟩ | ⟨r, hr, hM⟩)
          · exact ⟨i, by omega, hki, hM⟩
          · exact ⟨_, by omega, hr, hM⟩
        · rintro ⟨i, hi, hki, hM⟩
          by_cases hi' : i < 512 * k.val
          · exact .inl ⟨i, hi', hki, hM⟩
          · right
            refine ⟨⟨i - 512 * k.val, by omega⟩, ?_, ?_⟩
            · show kp bx (512 * k.val + (i - 512 * k.val))
              rw [show 512 * k.val + (i - 512 * k.val) = i by omega]; exact hki
            · show over bx (512 * k.val + (i - 512 * k.val)) j.val
              rw [show 512 * k.val + (i - 512 * k.val) = i by omega]; exact hM
      · exact absurd hlt (by omega)
      · rw [ih.late j hj, if_pos (by by_contra hc; exact hh ⟨rfl, by omega, by omega⟩)]
      · rw [ih.late j hj, if_neg (by omega)]

/-- One trip of the blocks' loop decides one block. -/
theorem trip1_inv (k : Fin k0_t1_loop.trips) (f : BufTy.Contents (Elt Ideal) arg4.view.ty)
    (h : Inv arg4 bx (512 * k.val) (512 * k.val) 0 f) :
    Inv arg4 bx (512 * (k.val + 1)) (512 * (k.val + 1)) 0 ((trip1 c i arg1 harg1 arg2 harg2 arg3 harg3 arg4 harg4 v53 v60 k).1 f) := by
  have hk := lt12 k
  rw [trip1_eq]
  have := later_inv c i arg1 harg1 arg2 harg2 arg3 harg3 arg4 harg4 v53 v60 bx k f h _ le_rfl
  refine ⟨this.box, this.area, fun j hj => this.kept j (by omega), fun j hj => ?_⟩
  rw [this.late j (by omega), if_pos (by rw [t2_trips]; omega), if_neg (by omega)]
  rfl

theorem St1_inv (G : BufTy.Contents (Elt Ideal) arg4.view.ty) (h : Inv arg4 bx 0 0 0 G) : ∀ k ≤ 12,
    Inv arg4 bx (512 * k) (512 * k) 0 (St1 c i arg1 harg1 arg2 harg2 arg3 harg3 arg4 harg4 v53 v60 G k) := by
  intro k
  induction k with
  | zero => intro _; exact h
  | succ k ih =>
    intro hk
    have := St1_succ c i arg1 harg1 arg2 harg2 arg3 harg3 arg4 harg4 v53 v60 G ⟨k, by rw [t1_trips]; omega⟩
    rw [this]
    exact trip1_inv c i arg1 harg1 arg2 harg2 arg3 harg3 arg4 harg4 v53 v60 bx ⟨k, _⟩ _ (ih (by omega))

/-! ### The running count -/

theorem sum_block (g : ℕ → EReal) (n : ℕ) :
    ∑ j ∈ Finset.range (512 * (n + 1)), g j = ∑ j ∈ Finset.range (512 * n), g j + ∑ r : Fin 512, g (512 * n + r.val) := by
  rw [show 512 * (n + 1) = 512 * n + 512 by ring, Finset.sum_range_add, Fin.sum_univ_eq_sum_range (fun r => g (512 * n + r))]

theorem sum_upto (P : ℕ → Prop) (n : ℕ) (cc : Fin 512) :
    ∑ r : Fin 512, ind (P (512 * n + r.val) ∧ r.val ≤ cc.val) + ∑ j ∈ Finset.range (512 * n), ind (P j)
      = ∑ j ∈ Finset.range (512 * n + cc.val + 1), ind (P j) := by
  rw [show 512 * n + cc.val + 1 = 512 * n + (cc.val + 1) by ring, Finset.sum_range_add, add_comm,
    Fin.sum_univ_eq_sum_range (fun r => ind (P (512 * n + r) ∧ r ≤ cc.val))]
  refine congrArg (_ + ·) ((Finset.sum_subset (Finset.range_subset_range.2 (show cc.val + 1 ≤ 512 by omega)) fun r _ hr => ?_).symm.trans
    (Finset.sum_congr rfl fun r hr => ?_))
  · have : ¬ r ≤ cc.val := by simpa [Nat.lt_succ_iff] using hr
    simp [ind, this]
  · have : r ≤ cc.val := by simpa [Nat.lt_succ_iff] using hr
    simp [this]

theorem cnt_eq (j : ℕ) : ∑ i ∈ Finset.range (j + 1), ind (kp bx i) = (Nms.cnt 6000 (over bx) j : EReal) := by
  rw [sum_ind]; unfold Nms.cnt
  congr 3

/-- The buffer once the kept candidates are counted up to `n`. -/
structure Cnt (n : ℕ) (f : BufTy.Contents (Elt Ideal) arg4.view.ty) : Prop extends Inv arg4 bx 6144 6144 0 f where
  count : ∀ j : Fin 6144, j.val < n → rd arg4 f 7 j = (Nms.cnt 6000 (over bx) j.val : EReal)

theorem st4_inv (G : BufTy.Contents (Elt Ideal) arg4.view.ty) (h : Inv arg4 bx 6144 6144 0 G) (a : EReal) (ha : a = 0) : ∀ k ≤ 12,
    (st_k0_t4 (F := Ideal) 𝒱₀ c none i arg1 harg1 arg2 harg2 arg3 harg3 arg4 harg4 v53 v60 G a k).1
        = ∑ j ∈ Finset.range (512 * k), ind (kp bx j)
      ∧ Cnt arg4 bx (512 * k) (arg4.view.writes (Elt Ideal) G
        (st_k0_t4 (F := Ideal) 𝒱₀ c none i arg1 harg1 arg2 harg2 arg3 harg3 arg4 harg4 v53 v60 G a k).2) := by
  intro k
  induction k with
  | zero => intro _; exact ⟨by rw [st_k0_t4_zero, ha]; simp, h, fun j hj => absurd hj (by omega)⟩
  | succ k ih =>
    intro hk
    obtain ⟨ih1, ih⟩ := ih (by omega)
    have hk4 : k < k0_t4_loop.trips := by rw [t4_trips]; omega
    rw [st_k0_t4_succ _ _ _ _ _ _ _ _ _ _ _ _ _ _ _ _ ⟨k, hk4⟩, tripL4_eq, tripR4_eq]
    dsimp only at ih ih1 ⊢
    generalize (st_k0_t4 (F := Ideal) 𝒱₀ c none i arg1 harg1 arg2 harg2 arg3 harg3 arg4 harg4 v53 v60 G a k) = st at ih ih1 ⊢
    have hl := ih.ld_kept (k0_off20 ⟨k, hk4⟩) (k0_off20_inb ⟨k, hk4⟩) k (by omega) (off20_eq ⟨k, hk4⟩) (by omega)
    constructor
    · rw [pay46_apply _ _ _ hl, ih1, sum_block]
    rw [List.singleton_append]
    have hr := fun w => rd_writes arg4 G (k0_off21 ⟨k, hk4⟩) (k0_off21_inb ⟨k, hk4⟩) w st.2 7 k (off21_eq ⟨k, hk4⟩)
    refine ⟨⟨?_, ?_, ?_, ?_⟩, ?_⟩
    · intro j q
      rw [hr, dif_neg (fun hh => by have := congrArg Fin.val hh.1; simp at this; omega), ih.box]
    · intro j
      rw [hr, dif_neg (fun hh => absurd hh.1 (by decide)), ih.area]
    · intro j hj
      rw [hr, dif_neg (fun hh => absurd hh.1 (by decide)), ih.kept j hj]
    · intro j hj
      rw [hr, dif_neg (fun hh => absurd hh.1 (by decide)), ih.late j hj]
    · intro j hj
      rw [hr]
      split_ifs with hh
      · rw [pay45_apply _ _ _ hl, ih1, sum_upto (fun j => kp bx j), ← cnt_eq]
        dsimp only
        rw [show 512 * k + (j.val - 512 * k) = j.val by omega]
      · exact ih.count j (by by_contra hc; exact hh ⟨rfl, by omega, by omega⟩)

theorem st5_inv (X : BufTy.Contents (Elt Ideal) arg4.view.ty) (h : Cnt arg4 bx 6144 X) (p : Fin 1024) (q : Fin 4) : ∀ k ≤ 12,
    st_k0_t5 (F := Ideal) 𝒱₀ c none i arg1 harg1 arg2 harg2 arg3 harg3 arg4 harg4 v53 v60 X k0_pay47 k (ix2 p q)
      = ∑ j ∈ Finset.range (512 * k), ind (Nms.cnt 6000 (over bx) j = p.val + 1 ∧ kp bx j) * bx j q := by
  intro k
  induction k with
  | zero => intro _; rw [st_k0_t5_zero, pay47_apply]; simp
  | succ k ih =>
    intro hk
    have hk5 : k < k0_t5_loop.trips := by rw [t5_trips]; omega
    have hk' : k < 12 := by omega
    rw [st_k0_t5_succ _ _ _ _ _ _ _ _ _ _ _ _ _ _ _ _ ⟨k, hk5⟩, tripR5_eq]
    rw [pay48_apply _ _ _ _ _ _ _ (fun cc => Nms.cnt 6000 (over bx) (512 * k + cc.val)) (fun cc => kp bx (512 * k + cc.val))
      (fun cc => bx (512 * k + cc.val))
      (fun cc => by rw [ld_apply arg4 X _ _ 7 k hk' (off22_eq ⟨k, hk5⟩) cc, h.count _ (by show 512 * k + cc.val < 6144; omega)]; rfl)
      (h.ld_kept _ _ k hk' (off23_eq ⟨k, hk5⟩) (by omega))
      (h.ld_box _ _ 0 k hk' (off24_eq ⟨k, hk5⟩)) (h.ld_box _ _ 1 k hk' (off25_eq ⟨k, hk5⟩))
      (h.ld_box _ _ 2 k hk' (off26_eq ⟨k, hk5⟩)) (h.ld_box _ _ 3 k hk' (off27_eq ⟨k, hk5⟩)), sum_block]
    dsimp only
    rw [ih (by omega)]

/-- What the body stores, from a scratch buffer that holds the boxes and their areas, with none suppressed. -/
theorem out_eq (G : BufTy.Contents (Elt Ideal) arg4.view.ty) (h : Inv arg4 bx 0 0 0 G) (a : EReal) (ha : a = 0) (p : Fin 1000) (q : Fin 4)
    (n1 n4 n5 : ℕ) (h1 : n1 = 12) (h4 : n4 = 12) (h5 : n5 = 12) :
    k0_pay49 (st_k0_t5 (F := Ideal) 𝒱₀ c none i arg1 harg1 arg2 harg2 arg3 harg3 arg4 harg4 v53 v60
      (arg4.view.writes (Elt Ideal) (St1 c i arg1 harg1 arg2 harg2 arg3 harg3 arg4 harg4 v53 v60 G n1)
        (st_k0_t4 (F := Ideal) 𝒱₀ c none i arg1 harg1 arg2 harg2 arg3 harg3 arg4 harg4 v53 v60
          (St1 c i arg1 harg1 arg2 harg2 arg3 harg3 arg4 harg4 v53 v60 G n1) a n4).2) k0_pay47 n5) (ix3 0 p q)
      = outAt bx p.val q := by
  subst h1 h4 h5
  rw [pay49_apply, st5_inv c i arg1 harg1 arg2 harg2 arg3 harg3 arg4 harg4 v53 v60 bx _
    (st4_inv c i arg1 harg1 arg2 harg2 arg3 harg3 arg4 harg4 v53 v60 bx _
      (St1_inv c i arg1 harg1 arg2 harg2 arg3 harg3 arg4 harg4 v53 v60 bx G h 12 le_rfl) a ha 12 le_rfl).2 _ q 12 le_rfl]
  rfl

end Trip

end Cert.Proof.Ideal
-- ==== Proof.Ideal.Value.lean ====
module

public import proofs.«01_k».proof.Proof.Ideal.Invariant
public import Idealize.ShloMosaic.Lib.Pipeline.Frame
public import Idealize.ShloMosaic.Lib.VecWindow

@[expose] public section

/-!
# The kernel's body
-/

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]
local notation "𝕄" => MT nD τ sig Unit (Elt F) ℕ (UU nD τ) ℕ

/-- What the body leaves in the result's buffer, from the two operands' contents and the scratch buffer's at the
    entry, with the proof that it does. -/
def body_run (c : Dev nD) (i : grid0.Coords) (arg1 : Memref sig .tc .vmem S1x4x6144 .f32) (harg1 : arg1.IsWhole)
    (arg2 : Memref sig .tc .vmem S1x4x6144 .f32) (harg2 : arg2.IsWhole) (arg3 : Memref sig .tc .vmem S1x1000x4 .f32) (harg3 : arg3.IsWhole)
    (arg4 : Memref sig .tc .vmem S8x6144 .f32) (harg4 : arg4.IsWhole) (x1 x2 : Vec F S1x4x6144 .f32) :
    { Y : BufTy.Contents (Elt F) arg4.view.ty → Vec F S1x1000x4 .f32 //
      ∀ (K : PUnit → sProp 𝕄) (f4 : BufTy.Contents (Elt F) arg4.view.ty),
    iprop(owns (c : Thread nD τ) arg1 fullShare x1 ∗ owns (c : Thread nD τ) arg2 fullShare x2
      ∗ (∃ d, owns (c : Thread nD τ) arg3 fullShare d) ∗ (arg4.view.loc (c : Thread nD τ) ↦[arg4.view.set]{fullShare} f4)
      ∗ (iprop(owns (c : Thread nD τ) arg1 fullShare x1 ∗ owns (c : Thread nD τ) arg2 fullShare x2
      ∗ owns (c : Thread nD τ) arg3 fullShare (Y f4) ∗ (∃ f, arg4.view.loc (c : Thread nD τ) ↦[arg4.view.set]{fullShare} f)) -∗ K ⟨⟩))
    ⊢ wp frame (wpE (defs₀ (F := F)) 𝒱₀ (c : Thread nD τ) none) Set.univ
      (cc0__nms_kernel i arg1 harg1 arg2 harg2 arg3 harg3 arg4 harg4) K } := by
  refine ⟨?_, fun K f4 => ?run⟩
  case run =>
    unfold owns
    iintro ⟨⟨%f1, %h1, H1⟩, ⟨%f2, %h2, H2⟩, ⟨%d3, %f3, -, H3⟩, H4, HK⟩
    obtain rfl := harg1.eq_unread h1; obtain rfl := harg2.eq_unread h2
    sl_unfold [cc0__nms_kernel]
    sl_exec
    sl_step
    iapply HK
    isplitl [H1]
    · iexists _; isplitr; swap; · iexact H1
      ipureintro; exact harg1.read_unread _
    isplitl [H2]
    · iexists _; isplitr; swap; · iexact H2
      ipureintro; exact harg2.read_unread _
    isplitl [H3]
    · iexists _; isplitr; swap; · iexact H3
      ipureintro; exact (View.read_writes_full arg3.view f3 _ _ [])
    iexists _; iexact H4

/-- A row's store, read back. -/
theorem rd_row (arg4 : Memref sig .tc .vmem S8x6144 .f32) (f : BufTy.Contents (Elt Ideal) arg4.view.ty) (off : Fin 2 → ℕ) (inb : ∀ a, off a + S1x6144.size a ≤ S8x6144.size a)
    (w : FVec Ideal S1x6144 .f32) (L : List (View.Piece (Elt Ideal) S8x6144 .f32)) (r₀ : Fin 8) (h : off = ![r₀.val, 0])
    (r : Fin 8) (j : Fin 6144) :
    rd arg4 (arg4.view.writes (Elt Ideal) f (⟨Rect.unit (s := S8x6144) off S1x6144.size inb, w⟩ :: L)) r j
      = if r = r₀ then w (ix2 0 j) else rd arg4 (arg4.view.writes (Elt Ideal) f L) r j := by
  unfold rd
  split_ifs with hc
  · subst hc
    refine View.read_writes_cons_unit_of_mem arg4.view f inb w L _ _ h fun a => ?_
    match a with
    | ⟨0, _⟩ => show r.val = r.val + 0; omega
    | ⟨1, _⟩ => show j.val = 0 + j.val; omega
  · refine View.read_writes_cons_unit_of_not_mem arg4.view f inb w L _ h 0 ?_
    show r.val < r₀.val ∨ r₀.val + 1 ≤ r.val
    have : r.val ≠ r₀.val := fun e => hc (Fin.ext e)
    omega

/-- A row of an operand. -/
theorem row_apply (arg : Memref sig .tc .vmem S1x4x6144 .f32) (h : arg.IsWhole) (x : Vec Ideal S1x4x6144 .f32) (off : Fin 3 → ℕ)
    (inb : ∀ a, off a + S1x1x6144.size a ≤ S1x4x6144.size a) (q : Fin 4) (ho : off = ![0, q.val, 0]) (j : Fin 6144) :
    arg.view.readAt (Elt Ideal) (Rect.unit (s := S1x4x6144) off S1x1x6144.size inb).toLoadRect (h.unread x) (ix3 0 0 j) = x (ix3 0 q j) := by
  subst ho
  refine Eq.trans ?_ (congrFun (h.read_unread x) (ix3 0 q j))
  refine congrArg (arg.view.read (Elt Ideal) (h.unread x)) (funext fun a => Fin.ext ?_)
  match a with
  | ⟨0, _⟩ => show 0 + 1 * 0 = 0; omega
  | ⟨1, _⟩ => show q.val + 1 * 0 = q.val; omega
  | ⟨2, _⟩ => show 0 + 1 * j.val = j.val; omega

/-- The boxes, from the anchors `x1` and the deltas `x2`, coordinate by coordinate, the last two deltas as scales. -/
def bxOf (x1 x2 : Vec Ideal S1x4x6144 .f32) (j : ℕ) : Fin 4 → EReal :=
  if h : j < 6144 then Box.box (fun q => x1 (ix3 0 q ⟨j, h⟩)) (x2 (ix3 0 0 ⟨j, h⟩)) (x2 (ix3 0 1 ⟨j, h⟩)) (x2 (ix3 0 2 ⟨j, h⟩)) (x2 (ix3 0 3 ⟨j, h⟩))
  else fun _ => 0

/-- The buffer once its first six rows are written. -/
theorem init_inv (arg4 : Memref sig .tc .vmem S8x6144 .f32) (f : BufTy.Contents (Elt Ideal) arg4.view.ty) (bx : ℕ → Fin 4 → EReal)
    (w0 w1 w2 w3 w4 w5 : FVec Ideal S1x6144 .f32) (h0 : ∀ j : Fin 6144, w0 (ix2 0 j) = bx j.val 0) (h1 : ∀ j : Fin 6144, w1 (ix2 0 j) = bx j.val 1)
    (h2 : ∀ j : Fin 6144, w2 (ix2 0 j) = bx j.val 2) (h3 : ∀ j : Fin 6144, w3 (ix2 0 j) = bx j.val 3)
    (h4 : ∀ j : Fin 6144, w4 (ix2 0 j) = Box.area (bx j.val)) (h5 : ∀ j : Fin 6144, w5 (ix2 0 j) = 0) (i0 i1 i2 i3 i4 i5) :
    Inv arg4 bx 0 0 0 (arg4.view.writes (Elt Ideal) f [⟨Rect.unit (s := S8x6144) ![5, 0] S1x6144.size i5, w5⟩,
      ⟨Rect.unit (s := S8x6144) ![4, 0] S1x6144.size i4, w4⟩, ⟨Rect.unit (s := S8x6144) ![3, 0] S1x6144.size i3, w3⟩,
      ⟨Rect.unit (s := S8x6144) ![2, 0] S1x6144.size i2, w2⟩, ⟨Rect.unit (s := S8x6144) ![1, 0] S1x6144.size i1, w1⟩,
      ⟨Rect.unit (s := S8x6144) ![0, 0] S1x6144.size i0, w0⟩]) := by
  have hr : ∀ r j, rd arg4 (arg4.view.writes (Elt Ideal) f [⟨Rect.unit (s := S8x6144) ![5, 0] S1x6144.size i5, w5⟩,
      ⟨Rect.unit (s := S8x6144) ![4, 0] S1x6144.size i4, w4⟩, ⟨Rect.unit (s := S8x6144) ![3, 0] S1x6144.size i3, w3⟩,
      ⟨Rect.unit (s := S8x6144) ![2, 0] S1x6144.size i2, w2⟩, ⟨Rect.unit (s := S8x6144) ![1, 0] S1x6144.size i1, w1⟩,
      ⟨Rect.unit (s := S8x6144) ![0, 0] S1x6144.size i0, w0⟩]) r j
      = if r = 5 then w5 (ix2 0 j) else if r = 4 then w4 (ix2 0 j) else if r = 3 then w3 (ix2 0 j) else if r = 2 then w2 (ix2 0 j)
        else if r = 1 then w1 (ix2 0 j) else if r = 0 then w0 (ix2 0 j) else rd arg4 f r j := fun r j => by
    rw [rd_row arg4 f ![5, 0] _ _ _ 5 rfl, rd_row arg4 f ![4, 0] _ _ _ 4 rfl, rd_row arg4 f ![3, 0] _ _ _ 3 rfl, rd_row arg4 f ![2, 0] _ _ _ 2 rfl,
      rd_row arg4 f ![1, 0] _ _ _ 1 rfl, rd_row arg4 f ![0, 0] _ _ _ 0 rfl]
    rfl
  constructor
  · intro j q
    rw [hr]
    match q with
    | ⟨0, _⟩ => exact h0 j
    | ⟨1, _⟩ => exact h1 j
    | ⟨2, _⟩ => exact h2 j
    | ⟨3, _⟩ => exact h3 j
  · intro j; rw [hr]; exact h4 j
  · intro j hj; omega
  · intro j _
    rw [hr]
    refine (h5 j).trans ?_
    simp [Box.ind, sup]

set_option maxRecDepth 20000 in
/-- What the body stores: the kept boxes in order. -/
theorem body_value (c : Dev nD) (i : grid0.Coords) (arg1 : Memref sig .tc .vmem S1x4x6144 .f32) (harg1 : arg1.IsWhole)
    (arg2 : Memref sig .tc .vmem S1x4x6144 .f32) (harg2 : arg2.IsWhole) (arg3 : Memref sig .tc .vmem S1x1000x4 .f32) (harg3 : arg3.IsWhole)
    (arg4 : Memref sig .tc .vmem S8x6144 .f32) (harg4 : arg4.IsWhole) (x1 x2 : Vec Ideal S1x4x6144 .f32) (f4) (p : Fin 1000) (q : Fin 4) :
   (body_run c i arg1 harg1 arg2 harg2 arg3 harg3 arg4 harg4 x1 x2).1 f4 (ix3 0 p q) = Box.outAt (bxOf x1 x2) p.val q := by
  unfold body_run
  dsimp only
  refine (out_eq c i arg1 harg1 arg2 harg2 arg3 harg3 arg4 harg4 _ _ _ _ ?_ _ ?_ p q _ _ _ (by decide) (by decide) (by decide))
  case refine_2 => unfold body_run.sl.cst_45; pointwise
  have hb : ∀ j : Fin 6144, bxOf x1 x2 j.val = Box.box (fun q => x1 (ix3 0 q j)) (x2 (ix3 0 0 j)) (x2 (ix3 0 1 j)) (x2 (ix3 0 2 j)) (x2 (ix3 0 3 j)) :=
    fun j => dif_pos j.isLt
  have hx0 := fun inb => row_apply arg1 harg1 x1 ![0, 0, 0] inb 0 rfl
  have hy0 := fun inb => row_apply arg2 harg2 x2 ![0, 0, 0] inb 0 rfl
  have hx1 := fun inb => row_apply arg1 harg1 x1 ![0, 1, 0] inb 1 rfl
  have hy1 := fun inb => row_apply arg2 harg2 x2 ![0, 1, 0] inb 1 rfl
  have hx2 := fun inb => row_apply arg1 harg1 x1 ![0, 2, 0] inb 2 rfl
  have hy2 := fun inb => row_apply arg2 harg2 x2 ![0, 2, 0] inb 2 rfl
  have hx3 := fun inb => row_apply arg1 harg1 x1 ![0, 3, 0] inb 3 rfl
  have hy3 := fun inb => row_apply arg2 harg2 x2 ![0, 3, 0] inb 3 rfl
  refine init_inv arg4 f4 _ _ _ _ _ _ _ ?_ ?_ ?_ ?_ ?_ ?_ inb_S8x6144_S1x6144_0_0 inb_S8x6144_S1x6144_1_0 inb_S8x6144_S1x6144_2_0
    inb_S8x6144_S1x6144_3_0 inb_S8x6144_S1x6144_4_0 inb_S8x6144_S1x6144_5_0
  · intro j; rw [hb]; unfold body_run.sl.r body_run.sl.r_4
    pointwise [k0_pay34, k0_pay18, k0_pay19, k0_pay20, k0_pay21, k0_pay22, k0_pay23, k0_pay24, k0_pay25, k0_pay26, k0_pay27, k0_pay28, k0_pay29, k0_pay30, k0_pay31, k0_pay32, k0_pay33]
    simp only [hx0, hx1, hx2, hx3, hy0, hy1, hy2, hy3]
    rfl
  · intro j; rw [hb]; unfold body_run.sl.r_1 body_run.sl.r_3
    pointwise [k0_pay35, k0_pay18, k0_pay19, k0_pay20, k0_pay21, k0_pay22, k0_pay23, k0_pay24, k0_pay25, k0_pay26, k0_pay27, k0_pay28, k0_pay29, k0_pay30, k0_pay31, k0_pay32, k0_pay33]
    simp only [hx0, hx1, hx2, hx3, hy0, hy1, hy2, hy3]
    rfl
  · intro j; rw [hb]; unfold body_run.sl.r body_run.sl.r_2 body_run.sl.r_4
    pointwise [k0_pay36, k0_pay18, k0_pay19, k0_pay20, k0_pay21, k0_pay22, k0_pay23, k0_pay24, k0_pay25, k0_pay26, k0_pay27, k0_pay28, k0_pay29, k0_pay30, k0_pay31, k0_pay32, k0_pay33]
    simp only [hx0, hx1, hx2, hx3, hy0, hy1, hy2, hy3]
    rfl
  · intro j; rw [hb]; unfold body_run.sl.r_5 body_run.sl.r_1 body_run.sl.r_3
    pointwise [k0_pay37, k0_pay18, k0_pay19, k0_pay20, k0_pay21, k0_pay22, k0_pay23, k0_pay24, k0_pay25, k0_pay26, k0_pay27, k0_pay28, k0_pay29, k0_pay30, k0_pay31, k0_pay32, k0_pay33]
    simp only [hx0, hx1, hx2, hx3, hy0, hy1, hy2, hy3]
    rfl
  · intro j; rw [hb]; unfold body_run.sl.r_6 body_run.sl.r body_run.sl.r_1 body_run.sl.r_2 body_run.sl.r_3 body_run.sl.r_4
    pointwise [k0_pay38, k0_pay18, k0_pay19, k0_pay20, k0_pay21, k0_pay22, k0_pay23, k0_pay24, k0_pay25, k0_pay26, k0_pay27, k0_pay28, k0_pay29, k0_pay30, k0_pay31, k0_pay32, k0_pay33]
    simp only [hx0, hx1, hx2, hx3, hy0, hy1, hy2, hy3]
    rfl
  · intro j; pointwise [k0_pay39]

local notation "𝕄I" => MT nD τ sig Unit (Elt Ideal) ℕ (UU nD τ) ℕ

theorem ix3_eta (y : S1x1000x4.Idx) : y = Idealize.ShloMosaic.ix3 0 (y 1) (y 2) := by
  funext a
  match a with
  | ⟨0, _⟩ => exact Subsingleton.elim (α := Fin 1) _ _
  | ⟨1, _⟩ => rfl
  | ⟨2, _⟩ => rfl

/-- The body's triple: it leaves the kept boxes in the result's buffer. -/
theorem body_spec (c : Dev nD) (i : grid0.Coords) (arg1 : Memref sig .tc .vmem S1x4x6144 .f32) (harg1 : arg1.IsWhole)
    (arg2 : Memref sig .tc .vmem S1x4x6144 .f32) (harg2 : arg2.IsWhole) (arg3 : Memref sig .tc .vmem S1x1000x4 .f32) (harg3 : arg3.IsWhole)
    (arg4 : Memref sig .tc .vmem S8x6144 .f32) (harg4 : arg4.IsWhole) (x1 x2 : Vec Ideal S1x4x6144 .f32) (K : PUnit → sProp 𝕄I) :
    iprop(owns (c : Thread nD τ) arg1 fullShare x1 ∗ owns (c : Thread nD τ) arg2 fullShare x2
      ∗ (∃ d, owns (c : Thread nD τ) arg3 fullShare d) ∗ (∃ d, owns (c : Thread nD τ) arg4 fullShare d)
      ∗ (iprop(owns (c : Thread nD τ) arg1 fullShare x1 ∗ owns (c : Thread nD τ) arg2 fullShare x2
      ∗ owns (c : Thread nD τ) arg3 fullShare (fun y => Box.outAt (bxOf x1 x2) (y 1).val (y 2))
      ∗ (∃ d, owns (c : Thread nD τ) arg4 fullShare d)) -∗ K ⟨⟩))
    ⊢ wp frame (wpE (defs₀ (F := Ideal)) 𝒱₀ (c : Thread nD τ) none) Set.univ
      (cc0__nms_kernel i arg1 harg1 arg2 harg2 arg3 harg3 arg4 harg4) K := by
  have e : ∀ f, (body_run c i arg1 harg1 arg2 harg2 arg3 harg3 arg4 harg4 x1 x2).1 f = fun y => Box.outAt (bxOf x1 x2) (y 1).val (y 2) := fun f => by
    funext y
    conv_lhs => rw [ix3_eta y]
    exact body_value c i arg1 harg1 arg2 harg2 arg3 harg3 arg4 harg4 x1 x2 f _ _
  iintro ⟨H1, H2, H3, ⟨%d4, H4⟩, HK⟩
  unfold owns
  icases H4 with ⟨%f4, -, H4⟩
  iapply ((body_run c i arg1 harg1 arg2 harg2 arg3 harg3 arg4 harg4 x1 x2).2 K f4)
  rw [e]
  unfold owns
  isplitl [H1]; · iexact H1
  isplitl [H2]; · iexact H2
  isplitl [H3]; · iexact H3
  isplitl [H4]; · iexact H4
  iintro ⟨H1, H2, H3, ⟨%f, H4⟩⟩
  iapply HK
  isplitl [H1]; · iexact H1
  isplitl [H2]; · iexact H2
  isplitl [H3]; · iexact H3
  iexists _, f; isplitr; swap; · iexact H4
  ipureintro; rfl

end Cert.Proof.Ideal
-- ==== Proof.Ideal.Run.lean ====
module

public import proofs.«01_k».proof.Proof.Ideal.Value
public import Idealize.ShloMosaic.Lib.Pipeline.Frame
public import Idealize.ShloMosaic.Lib.Pipeline.ValueKit.Geometry

@[expose] public section

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

local notation "𝕄" => MT nD τ sig Unit (Elt Ideal) ℕ (UU nD τ) ℕ

variable (m : (ℓ : Loc nD τ sig) → Buf (Elt Ideal) ℓ) (ρ : Dev nD → PrngReg)

/-- The buffers as the pallas_call finds them: after the host operations. -/
abbrev V (c : Dev nD) (b : Ref sig .tc) : Buf (Elt Ideal) ((c : Thread nD τ).loc b) := StableHlo.after hostOps0 (fun b => m (c, b)) b

set_option maxHeartbeats 4000000 in
theorem hostOps0_fresh : (hostOps0 : List (HloOp τ sig (Elt Ideal))).Forall fun op => op.fresh = ∅ := by
  simp only [List.Forall]; repeat' constructor

/-- The reference each host operation writes, in order. -/
abbrev hostOps0_W : List (Ref sig .tc) := [main_call0_cst, main_call0_v0, main_call0_v1, main_call0_values, main_call0_indices, main_call0_v2, main_call0_v3, main_call0_v4, main_call0_v5, main_call0_call0_c, main_call0_call0_v0, main_call0_call0_v1, main_call0_call0_c_0, main_call0_call0_v2, main_call0_call0_v3, main_call0_call0_v4, main_call0_call0_c_1, main_call0_call0_c_2, main_call0_call0_v5, main_call0_call0_v6, main_call0_call0_v7, main_call0_call0_v8, main_call0_call0_v9, main_call0_call0_v10, main_call0_call0_c_3, main_call0_call0_v11, main_call0_call0_v12, main_call0_call0_v13, main_call0_call0_cst, main_call0_call0_v14, main_call0_v6, main_call0_v7, main_call0_v8, main_call0_v9, main_call0_v10, main_call0_v11, main_call0_call1_c, main_call0_call1_v0, main_call0_call1_v1, main_call0_call1_c_0, main_call0_call1_v2, main_call0_call1_v3, main_call0_call1_v4, main_call0_call1_c_1, main_call0_call1_c_2, main_call0_call1_v5, main_call0_call1_v6, main_call0_call1_v7, main_call0_call1_v8, main_call0_call1_v9, main_call0_call1_v10, main_call0_call1_c_3, main_call0_call1_v11, main_call0_call1_v12, main_call0_call1_v13, main_call0_call1_cst, main_call0_call1_v14, main_call0_v12, main_call0_c, main_call0_call2_v0, main_call0_v13, main_call0_c_0, main_call0_call3_v0, main_call0_v14, main_call0_v15, main_call0_v16]

theorem hostOps0_writes : (hostOps0 : List (HloOp τ sig (Elt Ideal))).Forall
    fun op => op.writes ⊆ (hostOps0_W.map (Proc.devRef (τ := τ) .tc)).toFinset :=
  StableHlo.forall_writes_sub_of_map rfl

set_option maxHeartbeats 40000000 in
theorem hmain (𝒱₀ : Variants) : Pipeline.HMain (Ix := Unit) (Name := ℕ) (U := UR sig nD τ) (Lvl := ℕ) cfgs 0 defs₀ 𝒱₀ m (main (F := Ideal)) (V m) :=
  Pipeline.hmain_prefix cfgs 0 defs₀ 𝒱₀ m main hostOps0 hostOps0_sub hostOps0_fresh main_chain

/-- The block of the transposed anchors that point `t` reads, -/
def ablk (c : Dev nD) (t : Fin (cfg0 (F := Ideal)).N) : Vec Ideal S1x4x6144 .f32 := (win0_0.blk t).view.read (Elt Ideal) (V m c main_call0_v16)
/-- and of the transposed deltas. -/
def dblk (c : Dev nD) (t : Fin (cfg0 (F := Ideal)).N) : Vec Ideal S1x4x6144 .f32 := (win0_1.blk t).view.read (Elt Ideal) (V m c main_call0_v15)

/-- What the body leaves in the result's buffer at point `t`: the kept boxes in order. -/
def kept (c : Dev nD) (t : Fin (cfg0 (F := Ideal)).N) : Vec Ideal S1x1000x4 .f32 :=
  fun y => Box.outAt (bxOf (ablk m c t) (dblk m c t)) (y 1).val (y 2)

/-- The pipeline's proof data: the arrays as the region finds them; the body leaves each operand's buffer at its block
    and the result's at the kept boxes. -/
def dats (_ : Fin 1) (c : Dev nD) : Dat τ (Elt Ideal) Unit ℕ (UR sig nD τ) ℕ (cfg0 (F := Ideal)) c where
  A w := V m c (Pipeline.arrRef spec0 w)
  after w t := match w with
    | ⟨0, _⟩ => ablk m c t
    | ⟨1, _⟩ => dblk m c t
    | ⟨2, _⟩ => kept m c t
  Φ _ := Pipeline.ΦA spec0 c
  q _ := fullShare
  owed _ := 0

theorem after0_0 (c : Dev nD) (t) : (dats m 0 c).after 0 t = ablk m c t := by dsimp only [dats]
theorem after0_1 (c : Dev nD) (t) : (dats m 0 c).after 1 t = dblk m c t := by dsimp only [dats]
theorem after0_2 (c : Dev nD) (t) : (dats m 0 c).after 2 t = kept m c t := by dsimp only [dats]

theorem before0_0 (c : Dev nD) (t) (d) : (dats m 0 c).before 0 t d = ablk m c t := by
  rw [(dats m 0 c).before_fetched 0 t (fetch0_0 t)]
  unfold Dat.fetched Dat.blockOf; dsimp only [dats]; rfl
theorem before0_1 (c : Dev nD) (t) (d) : (dats m 0 c).before 1 t d = dblk m c t := by
  rw [(dats m 0 c).before_fetched 1 t (fetch0_1 t)]
  unfold Dat.fetched Dat.blockOf; dsimp only [dats]; rfl

theorem body_obligation (c : Dev nD) : BodyObligation (dats m 0 c) (defs₀ (F := Ideal)) 𝒱₀ () Set.univ := fun t => by
  rw [bigSep_W0, bigSep_W0]
  sl_whnfR [defs₀, Defs.onTc]
  simp only [before0_0, before0_1]
  rw [show (dats m 0 c).Φ t.succ = (dats m 0 c).Φ t.castSucc from rfl,
    show (dats m 0 c).owesAt () t.succ = (dats m 0 c).owesAt () t.castSucc from rfl, after0_0, after0_1, after0_2,
    show (dats m 0 c).Φ t.castSucc = Pipeline.ΦA spec0 c from rfl]
  unfold Pipeline.ΦA
  rw [scopedRest0_eq]
  iintro ⟨⟨⟨%f, Hs⟩, Hg⟩, Ho, ⟨%d0, H0⟩, ⟨%d1, H1⟩, ⟨%d2, H2⟩⟩
  iapply (body_spec c _ _ _ _ _ _ _ _ _ (ablk m c t) (dblk m c t))
  isplitl [H0]; · iexact H0
  isplitl [H1]; · iexact H1
  isplitl [H2]; · iexists _; iexact H2
  isplitl [Hs]; · iexists _; rw [owns_whole]; iexact Hs
  iintro ⟨H0, H1, H2, ⟨%d, Hs⟩⟩
  isplitl [Hs Hg]
  · isplitl [Hs]; · iexists d; iapply (Entails.of_eq (owns_whole _ _ _ _)); iexact Hs
    iexact Hg
  isplitl [Ho]; · iexact Ho
  isplitl [H0]; · iexact H0
  isplitl [H1]; · iexact H1
  iexact H2

set_option backward.isDefEq.respectTransparency.types false in
/-- From any memory with zero counters the program terminates, every array that is no window's as the host operations
    left it, and every counter at zero. -/
theorem run_main : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- An argument is written by no host operation. -/
theorem V_arg (c : Dev nD) (r : Ref sig .tc) (hr : r ∉ hostOps0_W) : V m c r = m ((c : Thread nD τ).loc r) :=
  StableHlo.after_of_writes_sub hostOps0 _ hostOps0_writes hr

theorem rest_arg (r : Ref sig .tc) (h : ∀ w : Fin 3, (spec0 w).arr.view.ref ≠ r) (w : Fin (cfg0 (F := Ideal)).W) :
    ((cfg0 (F := Ideal)).spec w).arr.view.ref ≠ r := h w

/-- The frame: the program terminates, its arguments as they were and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono
    (fun _ h => ⟨fun c =>
      ⟨((h.1 c).2 main_arg0 (Pipeline.mem_restRefs_of main_arg0 (by decide) (rest_arg main_arg0 (by decide)))).trans (V_arg m c main_arg0 (by decide)),
       ((h.1 c).2 main_arg1 (Pipeline.mem_restRefs_of main_arg1 (by decide) (rest_arg main_arg1 (by decide)))).trans (V_arg m c main_arg1 (by decide)),
       ((h.1 c).2 main_arg2 (Pipeline.mem_restRefs_of main_arg2 (by decide) (rest_arg main_arg2 (by decide)))).trans (V_arg m c main_arg2 (by decide))⟩, h.2⟩)
    (run_main m ρ)

end Cert.Proof.Ideal
-- ==== Proof.Ref.Frame.lean ====
module

public import proofs.«01_k».proof.Proof.Gen.ReferenceIdeal.Run
public import Idealize.ShloMosaic.Lib.Quiescent

@[expose] public section

noncomputable section

namespace Cert.Proof.Ref

open Cert.ReferenceIdeal Cert.ReferenceIdeal.Gen Cert.ReferenceIdeal.Value
open Idealize.ShloMosaic Idealize.ShloMosaic.TcCoe Idealize.ShloMosaic.StableHlo
open Idealize.SL Idealize.SL.Sem

variable {F : FTy → Type} [FloatOps F]

/-- Every reference that the loop's condition and its body write. -/
abbrev loopW : List (Ref sig .tc) :=
  condOps_W ++ while0Ops0_W ++ while0Ops0_1_W ++ while0Ops0_2_W ++ while0Ops0_3_W ++ while0Ops0_4_W ++ while0Ops0_5_W ++ while0Ops0_6_W

/-- A reference that the loop does not write keeps its contents through the loop. -/
theorem atK_keep (m : (ℓ : Loc nD τ sig) → Buf (Elt F) ℓ) (c : Dev nD) (r : Ref sig .tc) (hr : r ∉ loopW) (k : ℕ) :
    atK m k c (Proc.devRef .tc r) = entryContents preI m c (Proc.devRef .tc r) := by
  simp only [loopW, List.mem_append, not_or] at hr
  obtain ⟨⟨⟨⟨⟨⟨⟨h0, h1⟩, h2⟩, h3⟩, h4⟩, h5⟩, h6⟩, h7⟩ := hr
  induction k with
  | zero => rfl
  | succ k ih =>
    rw [show atK m (k + 1) c = afterL bodyI (after condOps (atK m k c)) from rfl]
    rw [← ih]
    simp only [bodyI, afterL_cons, afterL_nil]
    rw [after_of_writes_sub _ _ while0Ops0_6_writes h7, after_of_writes_sub _ _ while0Ops0_5_writes h6,
      after_of_writes_sub _ _ while0Ops0_4_writes h5, after_of_writes_sub _ _ while0Ops0_3_writes h4,
      after_of_writes_sub _ _ while0Ops0_2_writes h3, after_of_writes_sub _ _ while0Ops0_1_writes h2,
      after_of_writes_sub _ _ while0Ops0_writes h1, after_of_writes_sub _ _ condOps_writes h0]

/-- Every reference that the operations before the loop write. -/
abbrev preW : List (Ref sig .tc) := hostOps0_W ++ hostOps0_1_W ++ hostOps0_2_W ++ hostOps0_3_W ++ hostOps0_4_W

/-- A reference that no operation before the loop writes holds at the loop's entry what it held at the start. -/
theorem entry_keep (m : (ℓ : Loc nD τ sig) → Buf (Elt F) ℓ) (c : Dev nD) (r : Ref sig .tc) (hr : r ∉ preW) :
    entryContents preI m c (Proc.devRef .tc r) = m ((c : Thread nD τ).loc r) := by
  simp only [preW, List.mem_append, not_or] at hr
  obtain ⟨⟨⟨⟨h0, h1⟩, h2⟩, h3⟩, h4⟩ := hr
  simp only [preI, afterL_cons, afterL_nil]
  rw [after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

/-- The references that the operations after the loop write. -/
abbrev hostOps0_5_W : List (Ref sig .tc) := [main_c_20, main_v128, main_v129, main_c_21, main_v130, main_v131, main_c_22,
  main_v132, main_v133, main_c_23, main_v134, main_v135, main_v136, main_v137, main_v138, main_v139, main_cst_24]
theorem hostOps0_5_writes : (hostOps0_5 : List (HloOp τ sig (Elt F))).Forall fun op => op.writes ⊆ (hostOps0_5_W.map (Proc.devRef (τ := τ) .tc)).toFinset :=
  StableHlo.forall_writes_sub_of_map rfl
abbrev hostOps0_6_W : List (Ref sig .tc) := [main_call5_v0, main_call5_v1, main_call5_v2, main_v140]
theorem hostOps0_6_writes : (hostOps0_6 : List (HloOp τ sig (Elt F))).Forall fun op => op.writes ⊆ (hostOps0_6_W.map (Proc.devRef (τ := τ) .tc)).toFinset :=
  StableHlo.forall_writes_sub_of_map rfl

/-- A reference that the program never writes ends at what it held at the start. -/
theorem final_keep (m : (ℓ : Loc nD τ sig) → Buf (Elt F) ℓ) (c : Dev nD) (r : Ref sig .tc) (h0 : r ∉ preW) (h1 : r ∉ loopW)
    (h2 : r ∉ hostOps0_5_W) (h3 : r ∉ hostOps0_6_W) :
    finalContents condOps preI bodyI postI 1000 m c (Proc.devRef .tc r) = m ((c : Thread nD τ).loc r) := by
  show afterL postI (after condOps (atK m 1000 c)) (Proc.devRef .tc r) = _
  have hc : r ∉ condOps_W := fun h => h1 (by simp only [loopW, List.mem_append]; exact .inl (.inl (.inl (.inl (.inl (.inl (.inl h)))))))
  simp only [postI, afterL_cons, afterL_nil]
  rw [after_of_writes_sub _ _ hostOps0_6_writes h3, after_of_writes_sub _ _ hostOps0_5_writes h2,
    after_of_writes_sub _ _ condOps_writes hc, atK_keep m c r h1, entry_keep m c r h0]

/-- The frame: the reference terminates, its arguments as they were and every counter at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono
    (fun r h => ⟨fun c =>
      ⟨(h c main_arg0 rfl).trans (final_keep m c main_arg0 (by decide +kernel) (by decide +kernel) (by decide +kernel) (by decide +kernel)),
       (h c main_arg1 rfl).trans (final_keep m c main_arg1 (by decide +kernel) (by decide +kernel) (by decide +kernel) (by decide +kernel)),
       (h c main_arg2 rfl).trans (final_keep m c main_arg2 (by decide +kernel) (by decide +kernel) (by decide +kernel) (by decide +kernel))⟩,
      Idealize.ShloMosaic.sem_eq_zero_of_no_sems (by decide) r.2⟩)
    (run_fold m ρ)

end Cert.Proof.Ref
-- ==== Proof.Ideal.Result.lean ====
module

public import proofs.«01_k».proof.Proof.Ideal.Run

@[expose] public section

/-!
# The kernel's result array
-/

noncomputable section

namespace Cert.Proof.Ideal

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-- The boxes of batch entry `b`, from the transposed anchors and deltas. -/
def bxAt (x1 x2 : FVec Ideal S2x4x6144 .f32) (b : Fin 2) (j : ℕ) : Fin 4 → EReal :=
  if h : j < 6144 then Box.box (fun q => x1 (ix3 b q ⟨j, h⟩)) (x2 (ix3 b 0 ⟨j, h⟩)) (x2 (ix3 b 1 ⟨j, h⟩)) (x2 (ix3 b 2 ⟨j, h⟩)) (x2 (ix3 b 3 ⟨j, h⟩))
  else fun _ => 0

theorem index0 : ∀ t : Fin (cfg0 (F := Ideal)).N, win0_0.index t = ![(grid0.coords t 0).val, 0, 0] := (by decide +kernel : ∀ t : Fin grid0.N, _)
theorem index1 : ∀ t : Fin (cfg0 (F := Ideal)).N, win0_1.index t = ![(grid0.coords t 0).val, 0, 0] := (by decide +kernel : ∀ t : Fin grid0.N, _)
theorem index2 : ∀ t : Fin (cfg0 (F := Ideal)).N, win0_2.index t = ![(grid0.coords t 0).val, 0, 0] := (by decide +kernel : ∀ t : Fin grid0.N, _)

theorem ablk_apply (c : Dev nD) (t : Fin (cfg0 (F := Ideal)).N) (q : Fin 4) (j : Fin 6144) :
    ablk m c t (ix3 0 q j) = (V m c main_call0_v16 : FVec Ideal S2x4x6144 .f32) (ix3 (grid0.coords t 0) q j) := by
  unfold ablk
  blk_simp
  refine congrArg (V m c main_call0_v16 : FVec Ideal S2x4x6144 .f32) (funext fun a => Fin.ext ?_)
  match a with
  | ⟨0, _⟩ => blk_simp [index0]; rfl
  | ⟨1, _⟩ => blk_simp [index0]
  | ⟨2, _⟩ => blk_simp [index0]

theorem dblk_apply (c : Dev nD) (t : Fin (cfg0 (F := Ideal)).N) (q : Fin 4) (j : Fin 6144) :
    dblk m c t (ix3 0 q j) = (V m c main_call0_v15 : FVec Ideal S2x4x6144 .f32) (ix3 (grid0.coords t 0) q j) := by
  unfold dblk
  blk_simp
  refine congrArg (V m c main_call0_v15 : FVec Ideal S2x4x6144 .f32) (funext fun a => Fin.ext ?_)
  match a with
  | ⟨0, _⟩ => blk_simp [index1]; rfl
  | ⟨1, _⟩ => blk_simp [index1]
  | ⟨2, _⟩ => blk_simp [index1]

attribute [local irreducible] Box.outAt bxAt in
/-- The result array after the run: the kept boxes of each batch entry, in order. -/
theorem final_o (c : Dev nD) : (dats m 0 c).arrAt 2 (cfg0 (F := Ideal)).N
    = fun y : S2x1000x4.Idx => Box.outAt (bxAt (V m c main_call0_v16) (V m c main_call0_v15) (y 0)) (y 1).val (y 2) := by
  refine (dats m 0 c).arrAt_eq_of_covers 2 _ (by decide +kernel) fun t hf y => ?_
  rw [after0_2]
  have hy : (win0_2.blk t).view.emb y = ix3 (grid0.coords t 0) (y 1 : Fin 1000) (y 2 : Fin 4) := by
    funext a
    refine Fin.ext ?_
    match a with
    | ⟨0, _⟩ =>
      blk_simp [index2]
    | ⟨1, _⟩ => blk_simp [index2]; rfl
    | ⟨2, _⟩ => blk_simp [index2]; rfl
  have hb : bxOf (ablk m c t) (dblk m c t) = bxAt (V m c main_call0_v16) (V m c main_call0_v15) (grid0.coords t 0) := by
    funext j
    unfold bxOf bxAt
    simp only [ablk_apply, dblk_apply]
  refine Eq.trans ?_ (congrArg (fun y : S2x1000x4.Idx => Box.outAt (bxAt (V m c main_call0_v16) (V m c main_call0_v15) (y 0)) (y 1).val (y 2)) hy.symm)
  unfold kept
  rw [hb]
  refine (cast_eq _ _).trans ?_
  rfl

/-- The run's result. -/
theorem run_value : θ_run defs (onTc (τ := τ) (main (F := Ideal))) ⟨m, fun _ => 0, ρ⟩ (fun r => ∀ c : Dev nD,
      r.2.mem ((c.tc : Thread nD τ).loc main_v0)
        = (fun y : S2x1000x4.Idx => Box.outAt (bxAt (V m c main_call0_v16) (V m c main_call0_v15) (y 0)) (y 1).val (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono
    (fun _ h c => ⟨((h.1 c).1 2).trans (final_o m c),
       ((h.1 c).2 main_arg0 (Pipeline.mem_restRefs_of main_arg0 (by decide) (rest_arg main_arg0 (by decide)))).trans (V_arg m c main_arg0 (by decide)),
       ((h.1 c).2 main_arg1 (Pipeline.mem_restRefs_of main_arg1 (by decide) (rest_arg main_arg1 (by decide)))).trans (V_arg m c main_arg1 (by decide)),
       ((h.1 c).2 main_arg2 (Pipeline.mem_restRefs_of main_arg2 (by decide) (rest_arg main_arg2 (by decide)))).trans (V_arg m c main_arg2 (by decide))⟩)
    (run_main m ρ)

end Cert.Proof.Ideal
-- ==== Proof.Math.Rows.lean ====
module

public import Idealize.ShloMosaic.Lib.Pointwise
public import Idealize.ShloMosaic.Lib.ValueIdxCore

@[expose] public section

/-!
# A gather of rows, one batch entry at a time

`y[b, m, :] = x[b, idx[b, m], :]`: the host's gather with a batching axis, read at an index.
-/

noncomputable section

namespace Cert.Proof.Rows

open Idealize.ShloMosaic

variable {α : Type}

/-- The gather of rows of each batch entry of a rank-3 array. -/
abbrev dims3 (B N M C : ℕ)
    (wf : GatherDims.WF ⟨3, ![B, N, C]⟩ ⟨3, ![B, M, 1]⟩ ⟨3, ![B, M, C]⟩ [2] [1] [0] [1] [0] 2 ![1, 1, C]) :
    GatherDims ⟨3, ![B, N, C]⟩ ⟨3, ![B, M, 1]⟩ ⟨3, ![B, M, C]⟩ where
  offsetDims := [2]
  collapsedSliceDims := [1]
  operandBatchingDims := [0]
  startIndicesBatchingDims := [0]
  startIndexMap := [1]
  indexVectorDim := 2
  sliceSizes := ![1, 1, C]
  wf := wf

/-- It reads the row that the index word names, clamped into the array. -/
theorem gather3 {B N M C : ℕ} (hN : 0 < N)
    (wf : GatherDims.WF ⟨3, ![B, N, C]⟩ ⟨3, ![B, M, 1]⟩ ⟨3, ![B, M, C]⟩ [2] [1] [0] [1] [0] 2 ![1, 1, C])
    (x : (⟨3, ![B, N, C]⟩ : Shape).Idx → α) (idx : IVec ⟨3, ![B, M, 1]⟩ 32) (b : Fin B) (r : Fin M) (q : Fin C) :
    Host.gather (dims3 B N M C wf) x idx (ix3 b r q)
      = x (ix3 b ⟨min (idx (ix3 b r (0 : Fin 1))).toInt.toNat (N - 1), by omega⟩ q) := by
  unfold Host.gather
  congr 1
  have h0 : (dims3 B N M C wf).start (ix3 b r q) idx (0 : Fin 3) + (dims3 B N M C wf).batchCoord (ix3 b r q) (0 : Fin 3)
      + (dims3 B N M C wf).offCoord (ix3 b r q) (0 : Fin 3) = b.val := by
    rw [GatherDims.offCoord_eq_zero _ _ _ (fun h => ((GatherDims.mem_sKept _ _).mp h).2 (by simp))]
    unfold GatherDims.start GatherDims.batchCoord
    rw [dif_neg (by simp), dif_pos (show (0 : Fin 3) ∈ (dims3 B N M C wf).operandBatchingDims from List.mem_singleton.mpr rfl)]
    rw [Nat.zero_add, Nat.add_zero]
    rfl
  have h1 : (dims3 B N M C wf).start (ix3 b r q) idx (1 : Fin 3) + (dims3 B N M C wf).batchCoord (ix3 b r q) (1 : Fin 3)
      + (dims3 B N M C wf).offCoord (ix3 b r q) (1 : Fin 3) = min (idx (ix3 b r (0 : Fin 1))).toInt.toNat (N - 1) := by
    rw [GatherDims.batchCoord_eq_zero _ _ _ (by simp), GatherDims.offCoord_eq_zero _ _ _ (fun h => ((GatherDims.mem_sKept _ _).mp h).1 (by simp))]
    simp only [Nat.add_zero]
    unfold GatherDims.start
    rw [dif_pos (show (1 : Fin 3) ∈ (dims3 B N M C wf).startIndexMap from List.mem_singleton.mpr rfl)]
    have hsi : (dims3 B N M C wf).siIdx (ix3 b r q) ⟨List.idxOf (1 : Fin 3) (dims3 B N M C wf).startIndexMap,
        List.idxOf_lt_length_iff.2 (List.mem_singleton.mpr rfl)⟩ = ix3 b r (0 : Fin 1) := by
      funext b; refine Fin.ext ?_
      match b with
      | ⟨0, _⟩ => rfl
      | ⟨1, _⟩ => rfl
      | ⟨2, _⟩ => rfl
    rw [hsi]
    rfl
  have h2 : (dims3 B N M C wf).start (ix3 b r q) idx (2 : Fin 3) + (dims3 B N M C wf).batchCoord (ix3 b r q) (2 : Fin 3)
      + (dims3 B N M C wf).offCoord (ix3 b r q) (2 : Fin 3) = q.val := by
    rw [GatherDims.batchCoord_eq_zero _ _ _ (by simp)]
    unfold GatherDims.start GatherDims.offCoord
    rw [dif_neg (by simp), dif_pos ((GatherDims.mem_sKept _ _).mpr ⟨by simp, by simp⟩)]
    rw [Nat.zero_add]
    rfl
  funext a
  refine Fin.ext ?_
  match a with
  | ⟨0, _⟩ => exact h0
  | ⟨1, _⟩ => exact h1
  | ⟨2, _⟩ => exact h2

/-- The gather of one element of each batch entry of a rank-2 array. -/
abbrev dims2 (B N : ℕ)
    (wf : GatherDims.WF ⟨2, ![B, N]⟩ ⟨3, ![B, 1, 1]⟩ ⟨2, ![B, 1]⟩ [] [1] [0] [1] [0] 2 ![1, 1]) :
    GatherDims ⟨2, ![B, N]⟩ ⟨3, ![B, 1, 1]⟩ ⟨2, ![B, 1]⟩ where
  offsetDims := []
  collapsedSliceDims := [1]
  operandBatchingDims := [0]
  startIndicesBatchingDims := [0]
  startIndexMap := [1]
  indexVectorDim := 2
  sliceSizes := ![1, 1]
  wf := wf

/-- It reads the element that the index word names, clamped into the row. -/
theorem gather2 {B N : ℕ} (hN : 0 < N)
    (wf : GatherDims.WF ⟨2, ![B, N]⟩ ⟨3, ![B, 1, 1]⟩ ⟨2, ![B, 1]⟩ [] [1] [0] [1] [0] 2 ![1, 1])
    (x : (⟨2, ![B, N]⟩ : Shape).Idx → α) (idx : IVec ⟨3, ![B, 1, 1]⟩ 32) (b : Fin B) :
    Host.gather (dims2 B N wf) x idx (ix2 b (0 : Fin 1))
      = x (ix2 b ⟨min (idx (ix3 b (0 : Fin 1) (0 : Fin 1))).toInt.toNat (N - 1), by omega⟩) := by
  unfold Host.gather
  congr 1
  have h0 : (dims2 B N wf).start (ix2 b (0 : Fin 1)) idx (0 : Fin 2) + (dims2 B N wf).batchCoord (ix2 b (0 : Fin 1)) (0 : Fin 2)
      + (dims2 B N wf).offCoord (ix2 b (0 : Fin 1)) (0 : Fin 2) = b.val := by
    rw [GatherDims.offCoord_eq_zero _ _ _ (fun h => ((GatherDims.mem_sKept _ _).mp h).2 (by simp))]
    unfold GatherDims.start GatherDims.batchCoord
    rw [dif_neg (by simp), dif_pos (show (0 : Fin 2) ∈ (dims2 B N wf).operandBatchingDims from List.mem_singleton.mpr rfl)]
    rw [Nat.zero_add, Nat.add_zero]
    rfl
  have h1 : (dims2 B N wf).start (ix2 b (0 : Fin 1)) idx (1 : Fin 2) + (dims2 B N wf).batchCoord (ix2 b (0 : Fin 1)) (1 : Fin 2)
      + (dims2 B N wf).offCoord (ix2 b (0 : Fin 1)) (1 : Fin 2) = min (idx (ix3 b (0 : Fin 1) (0 : Fin 1))).toInt.toNat (N - 1) := by
    rw [GatherDims.batchCoord_eq_zero _ _ _ (by simp), GatherDims.offCoord_eq_zero _ _ _ (fun h => ((GatherDims.mem_sKept _ _).mp h).1 (by simp))]
    simp only [Nat.add_zero]
    unfold GatherDims.start
    rw [dif_pos (show (1 : Fin 2) ∈ (dims2 B N wf).startIndexMap from List.mem_singleton.mpr rfl)]
    have hsi : (dims2 B N wf).siIdx (ix2 b (0 : Fin 1)) ⟨List.idxOf (1 : Fin 2) (dims2 B N wf).startIndexMap,
        List.idxOf_lt_length_iff.2 (List.mem_singleton.mpr rfl)⟩ = ix3 b (0 : Fin 1) (0 : Fin 1) := by
      funext b; refine Fin.ext ?_
      match b with
      | ⟨0, _⟩ => rfl
      | ⟨1, _⟩ => rfl
      | ⟨2, _⟩ => rfl
    rw [hsi]
    rfl
  funext a
  refine Fin.ext ?_
  match a with
  | ⟨0, _⟩ => exact h0
  | ⟨1, _⟩ => exact h1

end Cert.Proof.Rows
-- ==== Proof.Math.Top.lean ====
module

public import Idealize.ShloMosaic.Lib.Pointwise
public import Idealize.ShloMosaic.Lib.SortFacts

@[expose] public section

/-!
# The top scores: positions, order, and the sort that follows them

The positions that a top-k selects lie in the array, the selected values descend, and so a stable ascending sort of the
negated values moves nothing.
-/

noncomputable section

namespace Cert.Proof.Top

open Idealize.ShloMosaic

/-- A stable sort of a list without inversions leaves it. -/
theorem stableSort_id {ι : Type} (before : ι → ι → Bool) (l : List ι) (h : l.Pairwise fun a b => before b a = false) :
    stableSort before l = l := by
  induction l with
  | nil => rfl
  | cons a l ih =>
    rw [List.pairwise_cons] at h
    unfold stableSort
    rw [ih h.2]
    cases l with
    | nil => rfl
    | cons b l =>
      unfold insertBefore
      rw [h.1 b (by simp)]
      simp

/-- So its sorting permutation is the identity. -/
theorem sortedFrom_id {n : ℕ} (before : Fin n → Fin n → Bool) (h : ∀ i j : Fin n, i < j → before j i = false) (k : Fin n) :
    sortedFrom before k = k := by
  have hs : sortPositions n before = List.finRange n :=
    stableSort_id before _ ((List.pairwise_lt_finRange n).imp fun hij => h _ _ hij)
  unfold sortedFrom
  rw [List.get_of_eq hs]
  simp

theorem along2 {A B : ℕ} (b : Fin A) (j k : Fin B) :
    Shape.Idx.along (s := ⟨2, ![A, B]⟩) (ix2 b j) (1 : Fin 2) k = ix2 b k := by
  funext a
  unfold Shape.Idx.along
  match a with
  | ⟨0, _⟩ => exact Function.update_of_ne (fun h => absurd (congrArg Fin.val h) Nat.zero_ne_one) _ _
  | ⟨1, _⟩ => exact Function.update_self (1 : Fin 2) _ _

/-- A sort of two arrays along the last axis, the second array's result. -/
theorem sort2_snd {A B : ℕ} {α β : Type} (cmp : α × β → α × β → BitVec 1) (x : (⟨2, ![A, B]⟩ : Shape).Idx → α)
    (y : (⟨2, ![A, B]⟩ : Shape).Idx → β) (b : Fin A) (j : Fin B) :
    (Host.sort2 ⟨2, ![A, B]⟩ 1 cmp x y).2 (ix2 b j)
      = y (ix2 b (sortedFrom (fun k k' => cmp (x (ix2 b k), y (ix2 b k)) (x (ix2 b k'), y (ix2 b k')) == 1#1) j)) := by
  unfold Host.sort2
  rw [dif_pos (show 1 < (⟨2, ![A, B]⟩ : Shape).rank from Nat.one_lt_two)]
  dsimp only
  refine (congrArg y (along2 b j _)).trans ?_
  refine congrArg (fun p => y (ix2 b p)) ?_
  refine congrArg (fun f => sortedFrom f j) ?_
  funext k k'
  have e := along2 b j k
  have e' := along2 b j k'
  exact congrArg₂ (fun p p' => cmp (x p, y p) (x p', y p') == 1#1) e e'

/-- The first array's result. -/
theorem sort2_fst {A B : ℕ} {α β : Type} (cmp : α × β → α × β → BitVec 1) (x : (⟨2, ![A, B]⟩ : Shape).Idx → α)
    (y : (⟨2, ![A, B]⟩ : Shape).Idx → β) (b : Fin A) (j : Fin B) :
    (Host.sort2 ⟨2, ![A, B]⟩ 1 cmp x y).1 (ix2 b j)
      = x (ix2 b (sortedFrom (fun k k' => cmp (x (ix2 b k), y (ix2 b k)) (x (ix2 b k'), y (ix2 b k')) == 1#1) j)) := by
  unfold Host.sort2
  rw [dif_pos (show 1 < (⟨2, ![A, B]⟩ : Shape).rank from Nat.one_lt_two)]
  dsimp only
  refine (congrArg x (along2 b j _)).trans ?_
  refine congrArg (fun p => x (ix2 b p)) ?_
  refine congrArg (fun f => sortedFrom f j) ?_
  funext k k'
  have e := along2 b j k
  have e' := along2 b j k'
  exact congrArg₂ (fun p p' => cmp (x p, y p) (x p', y p') == 1#1) e e'

/-- The position of the `j`-th greatest score of batch entry `b`. -/
def pos (x : FVec Ideal ⟨2, ![2, 20000]⟩ .f32) (b : Fin 2) (j : Fin 6000) : Fin 20000 :=
  sortedFrom (fun k k' => FloatOps.cmpfTotal .gt (x (ix2 b k)) (x (ix2 b k')) == 1#1) ⟨j.val, by omega⟩

theorem slice_apply {α : Type} (z : (⟨2, ![2, 20000]⟩ : Shape).Idx → α)
    (h : (⟨2, ![2, 20000]⟩ : Shape).Slices (fun _ => 0) ⟨2, ![2, 6000]⟩) (b : Fin 2) (j : Fin 6000) :
    extractStridedSlice ⟨2, ![2, 6000]⟩ (fun _ => 0) z h (ix2 b j) = z (ix2 b ⟨j.val, by omega⟩) := by
  unfold extractStridedSlice
  refine congrArg z (funext fun a => Fin.ext ?_)
  match a with
  | ⟨0, _⟩ => exact Nat.zero_add _
  | ⟨1, _⟩ => exact Nat.zero_add _

theorem topK_idx (x : FVec Ideal ⟨2, ![2, 20000]⟩ .f32) (h) (b : Fin 2) (j : Fin 6000) :
    (Host.topK ⟨2, ![2, 6000]⟩ 1 (FloatOps.cmpfTotal .gt) x h).2 (ix2 b j) = BitVec.ofNat 32 (pos x b j).val := by
  unfold Host.topK
  dsimp only
  rw [slice_apply, sort2_snd]
  rfl

theorem topK_val (x : FVec Ideal ⟨2, ![2, 20000]⟩ .f32) (h) (b : Fin 2) (j : Fin 6000) :
    (Host.topK ⟨2, ![2, 6000]⟩ 1 (FloatOps.cmpfTotal .gt) x h).1 (ix2 b j) = x (ix2 b (pos x b j)) := by
  unfold Host.topK
  dsimp only
  rw [slice_apply, sort2_fst]
  rfl

/-- The selected scores descend. -/
theorem pos_desc (x : FVec Ideal ⟨2, ![2, 20000]⟩ .f32) (b : Fin 2) (i j : Fin 6000) (hij : i < j) :
    (x (ix2 b (pos x b j)) : EReal) ≤ x (ix2 b (pos x b i)) := by
  have hg : ∀ u v : EReal, (FloatOps.cmpfTotal (F := Ideal) (φ := .f32) .gt u v == 1#1) = decide (v < u) := by
    intro u v
    show (BitVec.ofBool (decide (v < u)) == 1#1) = _
    cases decide (v < u) <;> rfl
  have := sortedFrom_noInversion (n := 20000) (fun k k' => FloatOps.cmpfTotal .gt (x (ix2 b k)) (x (ix2 b k')) == 1#1)
    (fun k k' => FloatOps.cmpfTotal .gt (x (ix2 b k)) (x (ix2 b k')) == 1#1)
    (fun p q h => by rw [hg] at h ⊢; simp only [decide_eq_true_eq, decide_eq_false_iff_not] at h ⊢; exact not_lt.2 h.le)
    (fun _ _ h => h)
    (fun p q r h₁ h₂ => by
      rw [hg] at h₁ h₂ ⊢; simp only [decide_eq_false_iff_not, not_lt] at h₁ h₂ ⊢; exact h₁.trans h₂)
    ⟨i.val, by omega⟩ ⟨j.val, by omega⟩ hij
  rw [hg] at this
  exact not_lt.1 (of_decide_eq_false this)

/-- A stable sort of the negated descending scores by "less than" moves nothing: the carried positions stay in order. -/
theorem argsort_id (cmp : Ideal .f32 × BitVec 32 → Ideal .f32 × BitVec 32 → BitVec 1)
    (hc : ∀ l r, cmp l r = BitVec.ofBool (decide ((l.1 : EReal) < r.1)))
    (v : FVec Ideal ⟨2, ![2, 6000]⟩ .f32) (hv : ∀ (b : Fin 2) (i j : Fin 6000), i < j → (v (ix2 b i) : EReal) ≤ v (ix2 b j))
    (y : IVec ⟨2, ![2, 6000]⟩ 32) (b : Fin 2) (j : Fin 6000) :
    (Host.sort2 ⟨2, ![2, 6000]⟩ 1 cmp v y).2 (ix2 b j) = y (ix2 b j) := by
  rw [sort2_snd, sortedFrom_id]
  intro p q hpq
  rw [hc]
  have := hv b p q hpq
  rw [decide_eq_false (not_lt.2 this)]
  rfl

end Cert.Proof.Top
-- ==== Proof.Ideal.Prefix.lean ====
module

public import proofs.«01_k».proof.Proof.Ideal.Result
public import proofs.«01_k».proof.Proof.Math.Rows
public import proofs.«01_k».proof.Proof.Math.Top
public import Idealize.ShloMosaic.Lib.StableHlo.RunRead
public import Idealize.ShloMosaic.Lib.WordCmp

@[expose] public section

/-!
# What the host prepares for the kernel

The rows of the anchors and of the scaled deltas at the top scores' positions, the last two deltas exponentiated, padded
with zero rows, and transposed.
-/

noncomputable section

namespace Cert.Proof.Ideal

open Cert.KernelIdeal Cert.KernelIdeal.Gen
open Idealize.ShloMosaic Idealize.ShloMosaic.TcCoe Idealize.ShloMosaic.Tactic Idealize.ShloMosaic.StableHlo Idealize.ShloMosaic.WordCmp

variable (m : (ℓ : Loc nD τ sig) → Buf (Elt Ideal) ℓ)

/-- The foreground scores. -/
def fg (s : FVec Ideal S2x20000x2 .f32) : FVec Ideal S2x20000 .f32 :=
  shapeCast S2x20000 (extractStridedSlice S2x20000x1 ![0, 0, 1] s slices_S2x20000x2_S2x20000x1_0_0_1) shapeCasts_S2x20000x1_S2x20000

/-- The scaled deltas. -/
def scaled (d : FVec Ideal S2x20000x4 .f32) : FVec Ideal S2x20000x4 .f32 :=
  mulf d (broadcastInDim S2x20000x4 ![0, 1, 2] bcast_S1x1x4_S2x20000x4_0_1_2
    (shapeCast S1x1x4 (fun i => FloatOps.ofBits .f32 (lit0 (S4.rowMajor i)) : FVec Ideal S4 .f32) shapeCasts_S4_S1x1x4))

/-- The top positions as words. -/
def words (s : FVec Ideal S2x20000x2 .f32) : IVec S2x6000 32 :=
  (Host.topK S2x6000 1 (FloatOps.cmpfTotal .gt) (fg s) sliceFits_S2x20000_S2x6000).2

/-- The index words with the negative ones counted from the end. -/
def fixed (w : IVec S2x6000 32) : IVec S2x6000x1 32 :=
  select (cmpi .slt (broadcastInDim S2x6000x1 ![0, 1] bcast_S2x6000_S2x6000x1_0_1 w) (broadcastInDim S2x6000x1 ![] bcast_S_S2x6000x1 (constantI S_ 32 0#32)))
    (addi (broadcastInDim S2x6000x1 ![0, 1] bcast_S2x6000_S2x6000x1_0_1 w) (broadcastInDim S2x6000x1 ![] bcast_S_S2x6000x1 (constantI S_ 32 20000#32)))
    (broadcastInDim S2x6000x1 ![0, 1] bcast_S2x6000_S2x6000x1_0_1 w)

/-- Which of them lie in the array. -/
def inside (w : IVec S2x6000 32) : IVec S2x6000x1 1 :=
  andi (cmpi .sge (fixed w) (broadcastInDim S2x6000x1 ![] bcast_S_S2x6000x1 (constantI S_ 32 0#32)))
    (cmpi .sle (fixed w) (broadcastInDim S2x6000x1 ![0, 1, 2] bcast_S1x1x1_S2x6000x1_0_1_2 (broadcastInDim S1x1x1 ![2] bcast_S1_S1x1x1_2 (constantI S1 32 19999#32))))

/-- The rows of `x` that the words name. -/
def taken (x : FVec Ideal S2x20000x4 .f32) (w : IVec S2x6000 32) : FVec Ideal S2x6000x4 .f32 :=
  select (broadcastInDim S2x6000x4 ![0, 1] bcast_S2x6000_S2x6000x4_0_1
      (Host.reduce IntOp.andi (inside w) (constantI S_ 1 1#1) reducesTo_S2x6000x1_S2x6000_d2 h_S_))
    (Host.gather gather_S2x20000x4_S2x6000x1_S2x6000x4_2_1_0_0_1_2_114 x (fixed w))
    (broadcastInDim S2x6000x4 ![] bcast_S_S2x6000x4 (constant S_ .f32 0x7FC00000#32))

/-- Zero rows after the first 6000, and the columns first. -/
def columns (x : FVec Ideal S2x6000x4 .f32) : FVec Ideal S2x4x6144 .f32 :=
  transpose S2x4x6144 [0, 2, 1] (pad S2x6144x4 ![0, 0, 0] ![0, 144, 0] ![0, 0, 0] x (sitofp .f32 (constantI S_ 32 0#32))
    pads_S2x6000x4_S2x6144x4_000_01440_000 h_S_) transposes_S2x6144x4_S2x4x6144_0_2_1

/-- The last two columns exponentiated. -/
def halfExp (x : FVec Ideal S2x6000x4 .f32) : FVec Ideal S2x6000x4 .f32 :=
  concatenate S2x6000x4 2 [⟨S2x6000x2, extractStridedSlice S2x6000x2 ![0, 0, 0] x slices_S2x6000x4_S2x6000x2_0_0_0⟩,
    ⟨S2x6000x2, Host.exp (extractStridedSlice S2x6000x2 ![0, 0, 2] x slices_S2x6000x4_S2x6000x2_0_0_2)⟩] concatenates_S2x6000x2_S2x6000x2_S2x6000x4_d2

set_option maxHeartbeats 400000 in
set_option maxRecDepth 8192 in
theorem V_v16 (c : Dev nD) : V m c main_call0_v16
    = columns (taken (m ((c.tc : Thread nD τ).loc main_arg2)) (words (m ((c.tc : Thread nD τ).loc main_arg0)))) := by
  unfold V
  after_reads_simp
  simp only [TRef.ofBuf_toBuf]
  unfold columns taken inside fixed words fg
  rfl

set_option maxHeartbeats 400000 in
set_option maxRecDepth 8192 in
theorem upto_v7 (c : Dev nD) : upto hostOps0 (fun b => m (c, b)) 34 (Proc.devRef .tc main_call0_v7)
    = (TRef.of main_call0_v7 : TRef sig ⟨S2x6000x2, .f32⟩).toBuf (extractStridedSlice S2x6000x2 ![0, 0, 0] (taken (scaled (m ((c.tc : Thread nD τ).loc main_arg1))) (words (m ((c.tc : Thread nD τ).loc main_arg0)))) slices_S2x6000x4_S2x6000x2_0_0_0) := by
  after_reads_simp
  simp only [TRef.ofBuf_toBuf]
  refine congrArg _ ?_
  unfold taken inside fixed words fg scaled
  rfl

set_option maxHeartbeats 400000 in
set_option maxRecDepth 8192 in
theorem upto_v9 (c : Dev nD) : upto hostOps0 (fun b => m (c, b)) 34 (Proc.devRef .tc main_call0_v9)
    = (TRef.of main_call0_v9 : TRef sig ⟨S2x6000x2, .f32⟩).toBuf (Host.exp (extractStridedSlice S2x6000x2 ![0, 0, 2] (taken (scaled (m ((c.tc : Thread nD τ).loc main_arg1))) (words (m ((c.tc : Thread nD τ).loc main_arg0)))) slices_S2x6000x4_S2x6000x2_0_0_2 : FVec Ideal S2x6000x2 .f32)) := by
  after_reads_simp
  simp only [TRef.ofBuf_toBuf]
  refine congrArg _ ?_
  unfold taken inside fixed words fg scaled
  rfl

set_option maxHeartbeats 400000 in
set_option maxRecDepth 8192 in
theorem V_v15 (c : Dev nD) : V m c main_call0_v15
    = columns (halfExp (taken (scaled (m ((c.tc : Thread nD τ).loc main_arg1))) (words (m ((c.tc : Thread nD τ).loc main_arg0))))) := by
  have h : ∀ z : FVec Ideal S2x4x6144 .f32, (TRef.of main_call0_v15 : TRef sig ⟨S2x4x6144, .f32⟩).toBuf (Val := Elt Ideal) z = z := fun z => rfl
  unfold V
  after_reads_simp
  simp only [TRef.ofBuf_toBuf]
  rw [upto_v7, upto_v9, TRef.ofBuf_toBuf, TRef.ofBuf_toBuf]
  exact h _

end Cert.Proof.Ideal
-- ==== Proof.Ideal.Prep.lean ====
module

public import proofs.«01_k».proof.Proof.Ideal.Prefix
public import proofs.«01_k».proof.Proof.Ideal.Result
public import proofs.«01_k».proof.Proof.Math.Rows
public import proofs.«01_k».proof.Proof.Math.Top

@[expose] public section

/-!
# The prepared arrays, element by element
-/

noncomputable section

namespace Cert.Proof.Ideal

open Cert.KernelIdeal Cert.KernelIdeal.Gen
open Idealize.ShloMosaic Idealize.ShloMosaic.TcCoe Idealize.ShloMosaic.Tactic Idealize.ShloMosaic.StableHlo Idealize.ShloMosaic.WordCmp

/-- The first channel's probabilities: the second column of the scores. -/
theorem fg_apply (s : FVec Ideal S2x20000x2 .f32) (b : Fin 2) (n : Fin 20000) : fg s (ix2 b n) = s (ix3 b n (1 : Fin 2)) := by
  pointwise [fg]

/-- A scaled delta is the delta times its column's factor. -/
theorem scaled_apply (d : FVec Ideal S2x20000x4 .f32) (b : Fin 2) (n : Fin 20000) (q : Fin 4) :
    scaled d (ix3 b n q) = d (ix3 b n q) * Ideal.ofBits .f32 (lit0 (S4.rowMajor (ix1 q))) := by
  pointwise [scaled]

/-- An index that is a small natural number is not wrapped. -/
theorem unwrapped (w k : BitVec 32) (p : ℕ) (hp : p < 2 ^ 31) (hw : w = BitVec.ofNat 32 p) :
    Scalar.select (IntOp.cmpi .slt w 0#32) (IntOp.addi w k) w = w := by
  have h : IntOp.cmpi .slt w 0#32 = 0#1 := by
    rcases BitVec.eq_zero_or_eq_one (IntOp.cmpi .slt w 0#32) with h | h
    · exact h
    · rw [hw] at h
      have := (cmpi_slt_ofNat_eq_one_iff (w := 32) (a := p) (b := 0) (by simpa using hp) (by norm_num)).1 h
      omega
  rw [h]
  exact if_neg (by decide)

theorem fixed_apply (w : IVec S2x6000 32) (b : Fin 2) (j : Fin 6000) (p : ℕ) (hp : p < 20000) (hw : w (ix2 b j) = BitVec.ofNat 32 p) :
    fixed w (ix3 b j (0 : Fin 1)) = BitVec.ofNat 32 p := by
  pointwise [fixed]
  exact (unwrapped _ _ p (by omega) hw).trans hw

theorem inside_apply (w : IVec S2x6000 32) (b : Fin 2) (j : Fin 6000) (p : ℕ) (hp : p < 20000) (hw : w (ix2 b j) = BitVec.ofNat 32 p) :
    inside w (ix3 b j (0 : Fin 1)) = 1#1 := by
  pointwise [inside]
  rw [fixed_apply w b j p hp hw]
  have h1 : IntOp.cmpi .sge (BitVec.ofNat 32 p) 0#32 = 1#1 :=
    (cmpi_sle_ofNat_eq_one_iff (w := 32) (a := 0) (b := p) (by norm_num) (by norm_num; omega)).2 (Nat.zero_le _)
  have h2 : IntOp.cmpi .sle (BitVec.ofNat 32 p) 19999#32 = 1#1 :=
    (cmpi_sle_ofNat_eq_one_iff (w := 32) (a := p) (b := 19999) (by norm_num; omega) (by norm_num)).2 (by omega)
  rw [h1, h2]
  rfl

/-- The rows taken are the operand's rows at the given numbers. -/
theorem taken_apply (x : FVec Ideal S2x20000x4 .f32) (w : IVec S2x6000 32) (b : Fin 2) (j : Fin 6000) (q : Fin 4) (p : Fin 20000)
    (hw : w (ix2 b j) = BitVec.ofNat 32 p.val) : taken x w (ix3 b j q) = x (ix3 b p q) := by
  pointwise [taken]
  have h1 : Finset.fold IntOp.andi (1#1) (fun k : Fin 1 => inside w (ix3 b j k)) Finset.univ = 1#1 := by
    rw [Finset.univ_unique, Finset.fold_singleton]
    have : (default : Fin 1) = 0 := rfl
    rw [this, inside_apply w b j p.val p.isLt hw]
    rfl
  have h2 : Host.gather gather_S2x20000x4_S2x6000x1_S2x6000x4_2_1_0_0_1_2_114 x (fixed w) (ix3 b j q) = x (ix3 b p q) := by
    refine (Rows.gather3 (by norm_num) _ x (fixed w) b j q).trans ?_
    have : min (fixed w (ix3 b j 0)).toInt.toNat (20000 - 1) = p.val := by
      rw [fixed_apply w b j p.val p.isLt hw, toInt_ofNat_of_lt (by have := p.isLt; norm_num; omega)]
      have := p.isLt
      simp only [Int.toNat_natCast]
      omega
    exact congrArg x (congrArg (fun k => ix3 b k q) (Fin.ext this))
  rw [h2]
  exact if_pos h1

/-- The padded transpose at a column that is not padding. -/
theorem columns_apply (x : FVec Ideal S2x6000x4 .f32) (b : Fin 2) (q : Fin 4) (j : Fin 6144) (hj : j.val < 6000) :
    columns x (ix3 b q j) = x (ix3 b ⟨j.val, hj⟩ q) := by
  pointwise [columns]
  exact dif_pos hj

/-- The deltas with the last two columns exponentiated. -/
theorem halfExp_apply (x : FVec Ideal S2x6000x4 .f32) (b : Fin 2) (j : Fin 6000) (q : Fin 4) :
    halfExp x (ix3 b j q) = if q.val < 2 then x (ix3 b j q) else Ideal.exp (x (ix3 b j q)) := by
  pointwise [halfExp]
  by_cases h : q.val < 2
  · rw [dif_pos h, if_pos h]
  · rw [dif_neg h, if_neg h]
    exact congrArg (fun k => Ideal.exp (x (ix3 b j k))) (Fin.ext (by show 2 + (q.val - 2) = q.val; omega))

/-- The best anchors' numbers. -/
theorem words_apply (s : FVec Ideal S2x20000x2 .f32) (b : Fin 2) (j : Fin 6000) :
    words s (ix2 b j) = BitVec.ofNat 32 (Top.pos (fg s) b j).val := Top.topK_idx _ _ b j

/-- The proposal of rank `j` of entry `b` before suppression: the anchor of rank `j` by its probability,
    moved and scaled by its deltas, and clipped. -/
def theBoxes (s : FVec Ideal S2x20000x2 .f32) (d a : FVec Ideal S2x20000x4 .f32) (b : Fin 2) (j : ℕ) : Fin 4 → EReal :=
  if h : j < 6000 then
    Box.box (fun q => a (ix3 b (Top.pos (fg s) b ⟨j, h⟩) q))
      (scaled d (ix3 b (Top.pos (fg s) b ⟨j, h⟩) (0 : Fin 4))) (scaled d (ix3 b (Top.pos (fg s) b ⟨j, h⟩) (1 : Fin 4)))
      (Ideal.exp (scaled d (ix3 b (Top.pos (fg s) b ⟨j, h⟩) (2 : Fin 4)))) (Ideal.exp (scaled d (ix3 b (Top.pos (fg s) b ⟨j, h⟩) (3 : Fin 4))))
  else 0

/-- The boxes the kernel computes are these. -/
theorem bxAt_eq (s : FVec Ideal S2x20000x2 .f32) (d a : FVec Ideal S2x20000x4 .f32) (b : Fin 2) (j : ℕ) (hj : j < 6000) :
    bxAt (columns (taken a (words s))) (columns (halfExp (taken (scaled d) (words s)))) b j = theBoxes s d a b j := by
  have hd : ∀ q : Fin 4, columns (halfExp (taken (scaled d) (words s))) (ix3 b q ⟨j, by omega⟩)
      = if q.val < 2 then scaled d (ix3 b (Top.pos (fg s) b ⟨j, hj⟩) q) else Ideal.exp (scaled d (ix3 b (Top.pos (fg s) b ⟨j, hj⟩) q)) := by
    intro q
    rw [columns_apply _ b q ⟨j, by omega⟩ hj, halfExp_apply]
    rw [taken_apply _ _ b ⟨j, hj⟩ q _ (words_apply s b ⟨j, hj⟩)]
  have ha : (fun q => columns (taken a (words s)) (ix3 b q ⟨j, by omega⟩)) = fun q => a (ix3 b (Top.pos (fg s) b ⟨j, hj⟩) q) := by
    funext q
    rw [columns_apply _ b q ⟨j, by omega⟩ hj, taken_apply _ _ b ⟨j, hj⟩ q _ (words_apply s b ⟨j, hj⟩)]
  unfold bxAt theBoxes
  rw [dif_pos (show j < 6144 by omega), dif_pos hj, ha, hd 0, hd 1, hd 2, hd 3]
  rfl

end Cert.Proof.Ideal
-- ==== Proof.Ref.Entry.lean ====
module

public import proofs.«01_k».proof.Proof.Gen.ReferenceIdeal.Run
public import proofs.«01_k».proof.Proof.Math.Box
public import Idealize.ShloMosaic.Lib.Pointwise
public import Idealize.ShloMosaic.Lib.StableHlo.RunRead

@[expose] public section

/-!
# The reference up to its loop, as arrays

What the operations before the loop compute, each as one function of the arrays they read.
-/

noncomputable section

namespace Cert.Proof.Ref

open Cert.ReferenceIdeal Cert.ReferenceIdeal.Gen Cert.ReferenceIdeal.Value
open Idealize.ShloMosaic Idealize.ShloMosaic.TcCoe Idealize.ShloMosaic.Tactic Idealize.ShloMosaic.StableHlo

/-- The foreground scores. -/
def fg (s : FVec Ideal S2x20000x2 .f32) : FVec Ideal S2x20000 .f32 :=
  shapeCast S2x20000 (extractStridedSlice S2x20000x1 ![0, 0, 1] s slices_S2x20000x2_S2x20000x1_0_0_1) shapeCasts_S2x20000x1_S2x20000

/-- The deltas times their columns' factors. -/
def scaled (d : FVec Ideal S2x20000x4 .f32) : FVec Ideal S2x20000x4 .f32 :=
  mulf d (broadcastInDim S2x20000x4 ![0, 1, 2] bcast_S1x1x4_S2x20000x4_0_1_2
    (shapeCast S1x1x4 (fun i => FloatOps.ofBits .f32 (lit0 (S4.rowMajor i)) : FVec Ideal S4 .f32) shapeCasts_S4_S1x1x4))

/-- The greatest 6000 scores in order, and their positions. -/
def top (s : FVec Ideal S2x20000x2 .f32) : FVec Ideal S2x6000 .f32 × IVec S2x6000 32 :=
  Host.topK S2x6000 1 (FloatOps.cmpfTotal .gt) (fg s) sliceFits_S2x20000_S2x6000

/-- Positions as row numbers of an array of `n` rows, the negative ones counted from the end. -/
def wrap (n : BitVec 32) (w : IVec S2x6000 32) : IVec S2x6000x1 32 :=
  broadcastInDim S2x6000x1 ![0, 1] bcast_S2x6000_S2x6000x1_0_1
    (select (cmpi .slt w (broadcastInDim S2x6000 ![] bcast_S_S2x6000 (constantI S_ 32 0#32)))
      (addi w (broadcastInDim S2x6000 ![] bcast_S_S2x6000 (constantI S_ 32 n))) w)

/-- The rows of `x` at the positions `w`. -/
def rows (x : FVec Ideal S2x20000x4 .f32) (w : IVec S2x6000 32) : FVec Ideal S2x6000x4 .f32 :=
  Host.gather gather_S2x20000x4_S2x6000x1_S2x6000x4_2_1_0_0_1_2_114 x (wrap 20000#32 w)

/-- The rows of `x` in the order `w`. -/
def reorder (x : FVec Ideal S2x6000x4 .f32) (w : IVec S2x6000 32) : FVec Ideal S2x6000x4 .f32 :=
  Host.gather gather_S2x6000x4_S2x6000x1_S2x6000x4_2_1_0_0_1_2_114 x (wrap 6000#32 w)

def c0 (x : FVec Ideal S2x6000x4 .f32) : FVec Ideal S2x6000 .f32 :=
  shapeCast S2x6000 (extractStridedSlice S2x6000x1 ![0, 0, 0] x slices_S2x6000x4_S2x6000x1_0_0_0) shapeCasts_S2x6000x1_S2x6000
def c1 (x : FVec Ideal S2x6000x4 .f32) : FVec Ideal S2x6000 .f32 :=
  shapeCast S2x6000 (extractStridedSlice S2x6000x1 ![0, 0, 1] x slices_S2x6000x4_S2x6000x1_0_0_1) shapeCasts_S2x6000x1_S2x6000
def c2 (x : FVec Ideal S2x6000x4 .f32) : FVec Ideal S2x6000 .f32 :=
  shapeCast S2x6000 (extractStridedSlice S2x6000x1 ![0, 0, 2] x slices_S2x6000x4_S2x6000x1_0_0_2) shapeCasts_S2x6000x1_S2x6000
def c3 (x : FVec Ideal S2x6000x4 .f32) : FVec Ideal S2x6000 .f32 :=
  shapeCast S2x6000 (extractStridedSlice S2x6000x1 ![0, 0, 3] x slices_S2x6000x4_S2x6000x1_0_0_3) shapeCasts_S2x6000x1_S2x6000

/-- One half, everywhere. -/
def halves : FVec Ideal S2x6000 .f32 := broadcastInDim S2x6000 ![] bcast_S_S2x6000 (constant S_ .f32 0x3F000000#32)

/-- One side of the moved boxes: from the near and far coordinates, the shift and the growth. -/
def near (lo hi sh gr : FVec Ideal S2x6000 .f32) : FVec Ideal S2x6000 .f32 :=
  subf (addf (addf lo (mulf halves (subf hi lo))) (mulf sh (subf hi lo))) (mulf halves (mulf (subf hi lo) (Host.exp gr)))
def far (lo hi sh gr : FVec Ideal S2x6000 .f32) : FVec Ideal S2x6000 .f32 :=
  addf (near lo hi sh gr) (mulf (subf hi lo) (Host.exp gr))

/-- One column as an array of rows of one. -/
def asCol (x : FVec Ideal S2x6000 .f32) : FVec Ideal S2x6000x1 .f32 := broadcastInDim S2x6000x1 ![0, 1] bcast_S2x6000_S2x6000x1_0_1 x

/-- The moved boxes, the columns side by side. -/
def moved (a d : FVec Ideal S2x6000x4 .f32) : FVec Ideal S2x6000x4 .f32 :=
  concatenate S2x6000x4 2 [⟨S2x6000x1, asCol (near (c0 a) (c2 a) (c0 d) (c2 d))⟩, ⟨S2x6000x1, asCol (near (c1 a) (c3 a) (c1 d) (c3 d))⟩,
    ⟨S2x6000x1, asCol (far (c0 a) (c2 a) (c0 d) (c2 d))⟩, ⟨S2x6000x1, asCol (far (c1 a) (c3 a) (c1 d) (c3 d))⟩]
    concatenates_S2x6000x1_S2x6000x1_S2x6000x1_S2x6000x1_S2x6000x4_d2

variable (V : Valuation τ sig (Elt Ideal))

abbrev A0 : FVec Ideal S2x20000x2 .f32 := V (Proc.devRef .tc main_arg0)
abbrev A1 : FVec Ideal S2x20000x4 .f32 := V (Proc.devRef .tc main_arg1)
abbrev A2 : FVec Ideal S2x20000x4 .f32 := V (Proc.devRef .tc main_arg2)

set_option maxHeartbeats 400000 in
set_option maxRecDepth 8192 in
theorem read_v11 : after hostOps0 V (Proc.devRef .tc main_v11) = rows (A2 V) (top (A0 V)).2 := by
  after_reads_simp
  unfold rows wrap top fg
  rfl

set_option maxHeartbeats 400000 in
set_option maxRecDepth 8192 in
theorem read_v18 : after hostOps0 V (Proc.devRef .tc main_v18) = rows (scaled (A1 V)) (top (A0 V)).2 := by
  after_reads_simp
  unfold rows wrap top fg scaled
  rfl

set_option maxHeartbeats 400000 in
set_option maxRecDepth 8192 in
theorem read_values : after hostOps0 V (Proc.devRef .tc main_values) = (top (A0 V)).1 := by
  after_reads_simp
  unfold top fg
  rfl

set_option maxHeartbeats 400000 in
set_option maxRecDepth 8192 in
theorem upto_v59 : upto hostOps0 V 74 (Proc.devRef .tc main_v59)
    = asCol (near (c0 (rows (A2 V) (top (A0 V)).2)) (c2 (rows (A2 V) (top (A0 V)).2)) (c0 (rows (scaled (A1 V)) (top (A0 V)).2)) (c2 (rows (scaled (A1 V)) (top (A0 V)).2))) := by
  after_reads_simp
  unfold asCol near halves c0 c2 rows wrap top fg scaled
  rfl

set_option maxHeartbeats 400000 in
set_option maxRecDepth 8192 in
theorem upto_v60 : upto hostOps0 V 74 (Proc.devRef .tc main_v60)
    = asCol (near (c1 (rows (A2 V) (top (A0 V)).2)) (c3 (rows (A2 V) (top (A0 V)).2)) (c1 (rows (scaled (A1 V)) (top (A0 V)).2)) (c3 (rows (scaled (A1 V)) (top (A0 V)).2))) := by
  after_reads_simp
  unfold asCol near halves c1 c3 rows wrap top fg scaled
  rfl

set_option maxHeartbeats 400000 in
set_option maxRecDepth 8192 in
theorem upto_v61 : upto hostOps0 V 74 (Proc.devRef .tc main_v61)
    = asCol (far (c0 (rows (A2 V) (top (A0 V)).2)) (c2 (rows (A2 V) (top (A0 V)).2)) (c0 (rows (scaled (A1 V)) (top (A0 V)).2)) (c2 (rows (scaled (A1 V)) (top (A0 V)).2))) := by
  after_reads_simp
  unfold asCol far near halves c0 c2 rows wrap top fg scaled
  rfl

set_option maxHeartbeats 400000 in
set_option maxRecDepth 8192 in
theorem upto_v62 : upto hostOps0 V 74 (Proc.devRef .tc main_v62)
    = asCol (far (c1 (rows (A2 V) (top (A0 V)).2)) (c3 (rows (A2 V) (top (A0 V)).2)) (c1 (rows (scaled (A1 V)) (top (A0 V)).2)) (c3 (rows (scaled (A1 V)) (top (A0 V)).2))) := by
  after_reads_simp
  unfold asCol far near halves c1 c3 rows wrap top fg scaled
  rfl

set_option maxHeartbeats 400000 in
set_option maxRecDepth 8192 in
/-- The moved boxes. -/
theorem read_v63 : after hostOps0 V (Proc.devRef .tc main_v63)
    = moved (rows (A2 V) (top (A0 V)).2) (rows (scaled (A1 V)) (top (A0 V)).2) := by
  after_reads_simp
  show concatenate S2x6000x4 2
      [⟨S2x6000x1, upto hostOps0 V 74 (Proc.devRef .tc main_v59)⟩, ⟨S2x6000x1, upto hostOps0 V 74 (Proc.devRef .tc main_v60)⟩,
        ⟨S2x6000x1, upto hostOps0 V 74 (Proc.devRef .tc main_v61)⟩, ⟨S2x6000x1, upto hostOps0 V 74 (Proc.devRef .tc main_v62)⟩] _ = _
  rw [upto_v59, upto_v60, upto_v61, upto_v62]
  rfl

theorem read_cst7 : after hostOps0 V (Proc.devRef .tc main_cst_7) = constant (F := Ideal) S_ .f32 0x00000000#32 := by
  after_reads_simp
theorem read_cst8 : after hostOps0 V (Proc.devRef .tc main_cst_8) = constant (F := Ideal) S_ .f32 0x3F800000#32 := by
  after_reads_simp

/-- The boxes clipped to the unit square. -/
def clipped (x : FVec Ideal S2x6000x4 .f32) : FVec Ideal S2x6000x4 .f32 :=
  minimumf (broadcastInDim S2x6000x4 ![] bcast_S_S2x6000x4 (constant S_ .f32 0x3F800000#32))
    (maximumf (broadcastInDim S2x6000x4 ![] bcast_S_S2x6000x4 (constant S_ .f32 0x00000000#32)) x)

/-- The order of the scores: the stable sort of their negatives. -/
def order (v : FVec Ideal S2x6000 .f32) : IVec S2x6000 32 :=
  (Host.sort2 S2x6000 1 comparator_f32_i32_d1 (Host.negf v) (iotaInDim S2x6000 32 1)).2

theorem read_v64 (h7 : V (Proc.devRef .tc main_cst_7) = constant (F := Ideal) S_ .f32 0x00000000#32)
    (h8 : V (Proc.devRef .tc main_cst_8) = constant (F := Ideal) S_ .f32 0x3F800000#32) :
    after hostOps0_1 V (Proc.devRef .tc main_v64) = clipped (V (Proc.devRef .tc main_v63)) := by
  after_reads_simp
  simp only [TRef.ofBuf_toBuf]
  unfold clipped
  rw [← h7, ← h8]
  rfl

theorem read_v65 : after hostOps0_2 V (Proc.devRef .tc main_v65) = Host.negf (F := Ideal) (s := S2x6000) (φ := .f32) (V (Proc.devRef .tc main_values)) := by
  after_reads_simp

theorem read_v66 : after hostOps0_3 V (Proc.devRef .tc main_v66)
    = (Host.sort2 S2x6000 1 (comparator_f32_i32_d1 (F := Ideal)) (V (Proc.devRef .tc main_v65)) (iotaInDim S2x6000 32 1)).2 := by
  after_reads_simp
  simp only [TRef.ofBuf_toBuf]
  rfl

set_option maxHeartbeats 400000 in
set_option maxRecDepth 8192 in
theorem read_v73 : after hostOps0_4 V (Proc.devRef .tc main_v73) = reorder (V (Proc.devRef .tc main_v64)) (V (Proc.devRef .tc main_v66)) := by
  after_reads_simp
  unfold reorder wrap
  rfl

/-- A vector along the rows of the pair array, and along its columns. -/
def alongR (x : FVec Ideal S2x6000 .f32) : FVec Ideal S2x6000x6000 .f32 :=
  broadcastInDim S2x6000x6000 ![0, 1, 2] bcast_S2x6000x1_S2x6000x6000_0_1_2 (broadcastInDim S2x6000x1 ![0, 1] bcast_S2x6000_S2x6000x1_0_1 x)
def alongC (x : FVec Ideal S2x6000 .f32) : FVec Ideal S2x6000x6000 .f32 :=
  broadcastInDim S2x6000x6000 ![0, 1, 2] bcast_S2x1x6000_S2x6000x6000_0_1_2 (broadcastInDim S2x1x6000 ![0, 2] bcast_S2x6000_S2x1x6000_0_2 x)

/-- The positive part. -/
def plus1 (x : FVec Ideal S2x6000 .f32) : FVec Ideal S2x6000 .f32 :=
  maximumf x (broadcastInDim S2x6000 ![] bcast_S_S2x6000 (constant S_ .f32 0x00000000#32))
def plus2 (x : FVec Ideal S2x6000x6000 .f32) : FVec Ideal S2x6000x6000 .f32 :=
  maximumf x (broadcastInDim S2x6000x6000 ![] bcast_S_S2x6000x6000 (constant S_ .f32 0x00000000#32))

/-- The boxes' areas. -/
def areas (x : FVec Ideal S2x6000x4 .f32) : FVec Ideal S2x6000 .f32 := mulf (plus1 (subf (c2 x) (c0 x))) (plus1 (subf (c3 x) (c1 x)))

/-- The pairs' intersections. -/
def iscts (x : FVec Ideal S2x6000x4 .f32) : FVec Ideal S2x6000x6000 .f32 :=
  mulf (plus2 (subf (minimumf (alongR (c2 x)) (alongC (c2 x))) (maximumf (alongR (c0 x)) (alongC (c0 x)))))
    (plus2 (subf (minimumf (alongR (c3 x)) (alongC (c3 x))) (maximumf (alongR (c1 x)) (alongC (c1 x)))))

/-- The pairs' intersections over unions. -/
def ious (x : FVec Ideal S2x6000x4 .f32) : FVec Ideal S2x6000x6000 .f32 :=
  Host.divf (iscts x) (maximumf (subf (addf (alongR (areas x)) (alongC (areas x))) (iscts x))
    (broadcastInDim S2x6000x6000 ![] bcast_S_S2x6000x6000 (constant S_ .f32 0x2B8CBCCC#32)))

set_option maxHeartbeats 800000 in
set_option maxRecDepth 8192 in
theorem read_v127_0 : after hostOps0_4 V (Proc.devRef .tc main_v127_0) = ious (reorder (V (Proc.devRef .tc main_v64)) (V (Proc.devRef .tc main_v66))) := by
  after_reads_simp
  unfold ious iscts areas plus1 plus2 alongR alongC c0 c1 c2 c3 reorder wrap
  rfl

theorem read_v127_2 : after hostOps0_4 V (Proc.devRef .tc main_v127_2) = constantI S_ 32 0#32 := by
  after_reads_simp
  rfl
theorem read_v127_3 : after hostOps0_4 V (Proc.devRef .tc main_v127_3) = broadcastInDim S2x6000 ![] bcast_S_S2x6000 (constantI S_ 1 1#1) := by
  after_reads_simp
  rfl
theorem read_v127_4 : after hostOps0_4 V (Proc.devRef .tc main_v127_4) = broadcastInDim S2x1000 ![] bcast_S_S2x1000 (constantI S_ 32 4294967295#32) := by
  after_reads_simp
  rfl

/-- The proposals before suppression, in the scores' order. -/
def props (s : FVec Ideal S2x20000x2 .f32) (d a : FVec Ideal S2x20000x4 .f32) : FVec Ideal S2x6000x4 .f32 :=
  reorder (clipped (moved (rows a (top s).2) (rows (scaled d) (top s).2))) (order (top s).1)

variable (m : (ℓ : Loc nD τ sig) → Buf (Elt Ideal) ℓ) (c : Dev nD)

/-- The contents before the last stretch. -/
abbrev before4 : Valuation τ sig (Elt Ideal) :=
  after hostOps0_3 (after hostOps0_2 (after hostOps0_1 (after hostOps0 (launchContents m c))))

theorem before4_v64 : before4 m c (Proc.devRef .tc main_v64)
    = clipped (moved (rows (m ((c : Thread nD τ).loc main_arg2)) (top (m ((c : Thread nD τ).loc main_arg0))).2)
        (rows (scaled (m ((c : Thread nD τ).loc main_arg1))) (top (m ((c : Thread nD τ).loc main_arg0))).2)) := by
  unfold before4
  rw [after_of_writes_sub _ _ hostOps0_3_writes (by decide), after_of_writes_sub _ _ hostOps0_2_writes (by decide),
    read_v64 _ (read_cst7 _) (read_cst8 _), read_v63]

theorem before4_v66 : before4 m c (Proc.devRef .tc main_v66) = order (top (m ((c : Thread nD τ).loc main_arg0))).1 := by
  unfold before4
  rw [read_v66, read_v65, after_of_writes_sub _ _ hostOps0_1_writes (by decide), read_values]
  rfl

/-- The arguments, at the types they are printed with. -/
abbrev P : FVec Ideal S2x6000x4 .f32 :=
  props (m ((c : Thread nD τ).loc main_arg0)) (m ((c : Thread nD τ).loc main_arg1)) (m ((c : Thread nD τ).loc main_arg2))

/-- At the loop's entry: the proposals. -/
theorem entry_v73 : entryContents preI m c (Proc.devRef .tc main_v73) = P m c := by
  simp only [entryContents, preI, afterL_cons, afterL_nil]
  refine (read_v73 (before4 m c)).trans ?_
  rw [before4_v64, before4_v66]
  rfl

/-- At the loop's entry: the overlaps. -/
theorem entry_v127_0 : entryContents preI m c (Proc.devRef .tc main_v127_0) = ious (P m c) := by
  simp only [entryContents, preI, afterL_cons, afterL_nil]
  refine (read_v127_0 (before4 m c)).trans ?_
  rw [before4_v64, before4_v66]
  rfl

theorem entry_v127_2 : entryContents preI m c (Proc.devRef .tc main_v127_2) = constantI S_ 32 0#32 := by
  simp only [entryContents, preI, afterL_cons, afterL_nil]
  exact read_v127_2 _
theorem entry_v127_3 : entryContents preI m c (Proc.devRef .tc main_v127_3) = broadcastInDim S2x6000 ![] bcast_S_S2x6000 (constantI S_ 1 1#1) := by
  simp only [entryContents, preI, afterL_cons, afterL_nil]
  exact read_v127_3 _
theorem entry_v127_4 : entryContents preI m c (Proc.devRef .tc main_v127_4) = broadcastInDim S2x1000 ![] bcast_S_S2x1000 (constantI S_ 32 4294967295#32) := by
  simp only [entryContents, preI, afterL_cons, afterL_nil]
  exact read_v127_4 _

end Cert.Proof.Ref
-- ==== Proof.Ref.Boxes.lean ====
module

public import proofs.«01_k».proof.Proof.Ref.Entry
public import proofs.«01_k».proof.Proof.Math.Rows
public import proofs.«01_k».proof.Proof.Math.Top
public import Idealize.ShloMosaic.Lib.WordCmp

@[expose] public section

/-!
# The reference's arrays before the loop, element by element
-/

noncomputable section

namespace Cert.Proof.Ref

open Cert.ReferenceIdeal Cert.ReferenceIdeal.Gen Cert.ReferenceIdeal.Value
open Idealize.ShloMosaic Idealize.ShloMosaic.TcCoe Idealize.ShloMosaic.Tactic Idealize.ShloMosaic.StableHlo Idealize.ShloMosaic.WordCmp

theorem fg_apply (s : FVec Ideal S2x20000x2 .f32) (b : Fin 2) (n : Fin 20000) : fg s (ix2 b n) = s (ix3 b n (1 : Fin 2)) := by
  pointwise [fg]

theorem scaled_apply (d : FVec Ideal S2x20000x4 .f32) (b : Fin 2) (n : Fin 20000) (q : Fin 4) :
    scaled d (ix3 b n q) = d (ix3 b n q) * Ideal.ofBits .f32 (lit0 (S4.rowMajor (ix1 q))) := by
  pointwise [scaled]

/-- An index that is a small natural number is not wrapped. -/
theorem unwrapped (w k : BitVec 32) (p : ℕ) (hp : p < 2 ^ 31) (hw : w = BitVec.ofNat 32 p) :
    Scalar.select (IntOp.cmpi .slt w 0#32) (IntOp.addi w k) w = w := by
  have h : IntOp.cmpi .slt w 0#32 = 0#1 := by
    rcases BitVec.eq_zero_or_eq_one (IntOp.cmpi .slt w 0#32) with h | h
    · exact h
    · rw [hw] at h
      have := (cmpi_slt_ofNat_eq_one_iff (w := 32) (a := p) (b := 0) (by simpa using hp) (by norm_num)).1 h
      omega
  rw [h]
  exact if_neg (by decide)

theorem wrap_apply (n : BitVec 32) (w : IVec S2x6000 32) (b : Fin 2) (j : Fin 6000) (p : ℕ) (hp : p < 2 ^ 31) (hw : w (ix2 b j) = BitVec.ofNat 32 p) :
    wrap n w (ix3 b j (0 : Fin 1)) = BitVec.ofNat 32 p := by
  pointwise [wrap]
  exact (unwrapped _ _ p hp hw).trans hw

theorem rows_apply (x : FVec Ideal S2x20000x4 .f32) (w : IVec S2x6000 32) (b : Fin 2) (j : Fin 6000) (q : Fin 4) (p : Fin 20000)
    (hw : w (ix2 b j) = BitVec.ofNat 32 p.val) : rows x w (ix3 b j q) = x (ix3 b p q) := by
  have hp := p.isLt
  refine (Rows.gather3 (by norm_num) _ x (wrap 20000#32 w) b j q).trans ?_
  have : min (wrap 20000#32 w (ix3 b j 0)).toInt.toNat (20000 - 1) = p.val := by
    rw [wrap_apply _ w b j p.val (by omega) hw, toInt_ofNat_of_lt (by norm_num; omega)]
    simp only [Int.toNat_natCast]
    omega
  exact congrArg x (congrArg (fun k => ix3 b k q) (Fin.ext this))

theorem reorder_apply (x : FVec Ideal S2x6000x4 .f32) (w : IVec S2x6000 32) (b : Fin 2) (j : Fin 6000) (q : Fin 4) (p : Fin 6000)
    (hw : w (ix2 b j) = BitVec.ofNat 32 p.val) : reorder x w (ix3 b j q) = x (ix3 b p q) := by
  have hp := p.isLt
  refine (Rows.gather3 (by norm_num) _ x (wrap 6000#32 w) b j q).trans ?_
  have : min (wrap 6000#32 w (ix3 b j 0)).toInt.toNat (6000 - 1) = p.val := by
    rw [wrap_apply _ w b j p.val (by omega) hw, toInt_ofNat_of_lt (by norm_num; omega)]
    simp only [Int.toNat_natCast]
    omega
  exact congrArg x (congrArg (fun k => ix3 b k q) (Fin.ext this))

theorem comparator_eq (l r : Ideal .f32 × BitVec 32) :
    comparator_f32_i32_d1 (F := Ideal) l r = BitVec.ofBool (decide ((l.1 : EReal) < r.1)) := by
  have key : ∀ z : Ideal .f32, Scalar.select (FloatOps.cmpf (F := Ideal) (φ := .f32) .une z z) (FloatOps.ofBits .f32 0x7FC00000#32)
      (Scalar.select (FloatOps.cmpf (F := Ideal) (φ := .f32) .oeq z (FloatOps.ofBits .f32 0x00000000#32)) (FloatOps.ofBits .f32 0x00000000#32) z) = z := by
    intro z
    have h1 : FloatOps.cmpf (F := Ideal) (φ := .f32) .une z z = 0#1 := by
      show BitVec.ofBool (decide (z ≠ z)) = 0#1
      simp
    rw [h1]
    refine (if_neg (by decide)).trans ?_
    by_cases h0 : z = FloatOps.ofBits (F := Ideal) .f32 0x00000000#32
    · rw [← h0]; exact ite_self _
    · have h2 : FloatOps.cmpf (F := Ideal) (φ := .f32) .oeq z (FloatOps.ofBits .f32 0x00000000#32) = 0#1 := by
        show BitVec.ofBool (decide (z = _)) = 0#1
        rw [decide_eq_false h0]; rfl
      rw [h2]; exact if_neg (by decide)
  unfold comparator_f32_i32_d1
  dsimp only
  rw [key l.1, key r.1]
  rfl

/-- The scores come sorted, so sorting them again moves nothing. -/
theorem order_apply (s : FVec Ideal S2x20000x2 .f32) (b : Fin 2) (j : Fin 6000) : order (top s).1 (ix2 b j) = BitVec.ofNat 32 j.val := by
  refine (Top.argsort_id _ comparator_eq (Host.negf (top s).1) ?_ (iotaInDim S2x6000 32 1) b j).trans ?_
  · intro b i j hij
    have h := Top.pos_desc (fg s) b i j hij
    show -((top s).1 (ix2 b i) : EReal) ≤ -((top s).1 (ix2 b j) : EReal)
    rw [EReal.neg_le_neg_iff, top, Top.topK_val, Top.topK_val]
    exact h
  · rfl

theorem c0_apply (x : FVec Ideal S2x6000x4 .f32) (b : Fin 2) (j : Fin 6000) : c0 x (ix2 b j) = x (ix3 b j (0 : Fin 4)) := by pointwise [c0]
theorem c1_apply (x : FVec Ideal S2x6000x4 .f32) (b : Fin 2) (j : Fin 6000) : c1 x (ix2 b j) = x (ix3 b j (1 : Fin 4)) := by pointwise [c1]
theorem c2_apply (x : FVec Ideal S2x6000x4 .f32) (b : Fin 2) (j : Fin 6000) : c2 x (ix2 b j) = x (ix3 b j (2 : Fin 4)) := by pointwise [c2]
theorem c3_apply (x : FVec Ideal S2x6000x4 .f32) (b : Fin 2) (j : Fin 6000) : c3 x (ix2 b j) = x (ix3 b j (3 : Fin 4)) := by pointwise [c3]

theorem near_apply (lo hi sh gr : FVec Ideal S2x6000 .f32) (b : Fin 2) (j : Fin 6000) :
    near lo hi sh gr (ix2 b j) = ((lo (ix2 b j) + Box.half * (hi (ix2 b j) - lo (ix2 b j)) + sh (ix2 b j) * (hi (ix2 b j) - lo (ix2 b j)))
      - Box.half * ((hi (ix2 b j) - lo (ix2 b j)) * Ideal.exp (gr (ix2 b j))) : EReal) := by
  pointwise [near, halves]
  rfl
theorem far_apply (lo hi sh gr : FVec Ideal S2x6000 .f32) (b : Fin 2) (j : Fin 6000) :
    far lo hi sh gr (ix2 b j) = (near lo hi sh gr (ix2 b j) + (hi (ix2 b j) - lo (ix2 b j)) * Ideal.exp (gr (ix2 b j)) : EReal) := by
  pointwise [far]

theorem clipped_apply (x : FVec Ideal S2x6000x4 .f32) (b : Fin 2) (j : Fin 6000) (q : Fin 4) :
    clipped x (ix3 b j q) = Box.clip (x (ix3 b j q)) := by
  pointwise [clipped]
  rfl

/-- The moved boxes, clipped. -/
theorem moved_apply (a d : FVec Ideal S2x6000x4 .f32) (b : Fin 2) (j : Fin 6000) (q : Fin 4) :
    Box.clip (moved a d (ix3 b j q)) = Box.box (fun q => a (ix3 b j q)) (d (ix3 b j (0 : Fin 4))) (d (ix3 b j (1 : Fin 4)))
      (Ideal.exp (d (ix3 b j (2 : Fin 4)))) (Ideal.exp (d (ix3 b j (3 : Fin 4)))) q := by
  pointwise [moved, asCol]
  simp only [far_apply, near_apply, c0_apply, c1_apply, c2_apply, c3_apply]
  fin_cases q <;> rfl

theorem areas_apply (x : FVec Ideal S2x6000x4 .f32) (b : Fin 2) (j : Fin 6000) :
    areas x (ix2 b j) = Box.area (fun q => x (ix3 b j q)) := by
  pointwise [areas, plus1]
  simp only [c0_apply, c1_apply, c2_apply, c3_apply]
  rfl

theorem iscts_apply (x : FVec Ideal S2x6000x4 .f32) (b : Fin 2) (i j : Fin 6000) :
    iscts x (ix3 b i j) = Box.isct (fun q => x (ix3 b i q)) (fun q => x (ix3 b j q)) := by
  pointwise [iscts, plus2, alongR, alongC]
  simp only [c0_apply, c1_apply, c2_apply, c3_apply]
  rfl

theorem ious_apply (x : FVec Ideal S2x6000x4 .f32) (b : Fin 2) (i j : Fin 6000) :
    ious x (ix3 b i j) = Box.iou (fun q => x (ix3 b i q)) (fun q => x (ix3 b j q)) := by
  pointwise [ious, alongR, alongC]
  simp only [areas_apply, iscts_apply]
  rfl

/-- The position of the anchor of rank `j`. -/
theorem top_idx (s : FVec Ideal S2x20000x2 .f32) (b : Fin 2) (j : Fin 6000) :
    (top s).2 (ix2 b j) = BitVec.ofNat 32 (Top.pos (fg s) b j).val := Top.topK_idx _ _ b j

/-- The proposal of rank `j` of entry `b`: its anchor moved, scaled and clipped. -/
theorem props_apply (s : FVec Ideal S2x20000x2 .f32) (d a : FVec Ideal S2x20000x4 .f32) (b : Fin 2) (j : Fin 6000) :
    (fun q => props s d a (ix3 b j q)) = Box.box (fun q => a (ix3 b (Top.pos (fg s) b j) q))
      (scaled d (ix3 b (Top.pos (fg s) b j) (0 : Fin 4))) (scaled d (ix3 b (Top.pos (fg s) b j) (1 : Fin 4)))
      (Ideal.exp (scaled d (ix3 b (Top.pos (fg s) b j) (2 : Fin 4)))) (Ideal.exp (scaled d (ix3 b (Top.pos (fg s) b j) (3 : Fin 4)))) := by
  funext q
  unfold props
  rw [reorder_apply _ _ b j q j (order_apply s b j), clipped_apply, moved_apply]
  simp only [rows_apply _ _ b j _ _ (top_idx s b j)]

/-- The boxes of entry `b` by number. -/
def boxes (x : FVec Ideal S2x6000x4 .f32) (b : Fin 2) (j : ℕ) : Fin 4 → EReal :=
  if h : j < 6000 then fun q => x (ix3 b ⟨j, h⟩ q) else 0

theorem boxes_of_lt (x : FVec Ideal S2x6000x4 .f32) (b : Fin 2) (j : Fin 6000) : boxes x b j.val = fun q => x (ix3 b j q) :=
  dif_pos j.isLt

/-- Two proposals overlap by more than the threshold. -/
theorem ious_gt (x : FVec Ideal S2x6000x4 .f32) (b : Fin 2) (i j : Fin 6000) :
    Box.thr < (ious x (ix3 b i j) : EReal) ↔ Box.over (boxes x b) i.val j.val := by
  unfold Box.over
  rw [boxes_of_lt, boxes_of_lt, ious_apply]

end Cert.Proof.Ref
-- ==== Proof.Ref.Step.lean ====
module

public import proofs.«01_k».proof.Proof.Ref.Boxes
public import Idealize.ShloMosaic.Lib.Routing.OpsOne

@[expose] public section

/-!
# One round of the reference's selection

The least active candidate is taken, if there is one, and the active ones it overlaps are struck out.
-/

noncomputable section

namespace Cert.Proof.Ref

open Cert.ReferenceIdeal Cert.ReferenceIdeal.Gen Cert.ReferenceIdeal.Value
open Idealize.ShloMosaic Idealize.ShloMosaic.TcCoe Idealize.ShloMosaic.Tactic Idealize.ShloMosaic.StableHlo Idealize.ShloMosaic.WordCmp

/-- The column numbers. -/
def cols : IVec S2x6000 32 :=
  broadcastInDim S2x6000 ![0, 1] bcast_S1x6000_S2x6000_0_1 (broadcastInDim S1x6000 ![1] bcast_S6000_S1x6000_1 (iotaInDim S6000 32 0))

/-- The least active number of each entry, the last number where none is active. -/
def least (a : IVec S2x6000 1) : IVec S2 32 :=
  Host.reduce IntOp.minsi (select a cols (broadcastInDim S2x6000 ![] bcast_S_S2x6000 (id (constantI S_ 32 5999#32))))
    (constantI S_ 32 2147483647#32) reducesTo_S2x6000_S2_d1 h_S_

/-- That number as an index. -/
def leastIx (a : IVec S2x6000 1) : IVec S2x1x1 32 :=
  broadcastInDim S2x1x1 ![0, 1] bcast_S2x1_S2x1x1_0_1
    (select (cmpi .slt (broadcastInDim S2x1 ![0] bcast_S2_S2x1_0 (least a)) (broadcastInDim S2x1 ![] bcast_S_S2x1 (constantI S_ 32 0#32)))
      (addi (broadcastInDim S2x1 ![0] bcast_S2_S2x1_0 (least a)) (broadcastInDim S2x1 ![] bcast_S_S2x1 (constantI S_ 32 6000#32)))
      (broadcastInDim S2x1 ![0] bcast_S2_S2x1_0 (least a)))

/-- Whether it is active. -/
def valid (a : IVec S2x6000 1) : IVec S2x1 1 := Host.gather gather_S2x6000_S2x1x1_S2x1_n_1_0_0_1_2_11 a (leastIx a)

/-- Its row of overlaps. -/
def itsRow (o : FVec Ideal S2x6000x6000 .f32) (a : IVec S2x6000 1) : FVec Ideal S2x1x6000 .f32 :=
  Host.gather gather_S2x6000x6000_S2x1x1_S2x1x6000_2_1_0_0_1_2_116000 o (leastIx a)

/-- The active candidates after the round. -/
def nextActive (o : FVec Ideal S2x6000x6000 .f32) (a : IVec S2x6000 1) : IVec S2x6000 1 :=
  andi (select (broadcastInDim S2x6000 ![0, 1] bcast_S2x1_S2x6000_0_1 (valid a))
      (andi a (noti (cmpf .ogt (shapeCast S2x6000 (itsRow o a) shapeCasts_S2x1x6000_S2x6000) (broadcastInDim S2x6000 ![] bcast_S_S2x6000 (constant S_ .f32 0x3F333333#32))))) a)
    (cmpi .ne cols (broadcastInDim S2x6000 ![0, 1] bcast_S2x1_S2x6000_0_1 (broadcastInDim S2x1 ![0] bcast_S2_S2x1_0 (least a))))

/-- What the round selects. -/
def choice (a : IVec S2x6000 1) : IVec S2 32 :=
  select (shapeCast S2 (valid a) shapeCasts_S2x1_S2) (least a) (broadcastInDim S2 ![] bcast_S_S2 (constantI S_ 32 4294967295#32))

/-- The selection after the round. -/
def nextSel (i : IVec S_ 32) (a : IVec S2x6000 1) (z : IVec S2x1000 32) : IVec S2x1000 32 :=
  Host.scatter scatter_S2x1000_S1_S2_0_1_1_0 (fun _ b => b) z
    (broadcastInDim S1 ![] bcast_S_S1 (id (select (cmpi .slt i (constantI S_ 32 0#32)) (addi i (constantI S_ 32 1000#32)) i))) (choice a)

set_option maxRecDepth 8192 in
theorem least_eq (V : Valuation τ sig (Elt Ideal)) : res_main_while0b_v145 V = least (V (Proc.devRef .tc main_v127_3)) := by
  unfold res_main_while0b_v145 least cols; rfl

set_option maxRecDepth 8192 in
theorem valid_eq (V : Valuation τ sig (Elt Ideal)) : res_main_while0b_v153 V = valid (V (Proc.devRef .tc main_v127_3)) := by
  unfold res_main_while0b_v153 res_main_while0b_v146 valid leastIx; rw [least_eq]

set_option maxRecDepth 8192 in
/-- The active candidates after a trip. -/
theorem step3_eq (V : Valuation τ sig (Elt Ideal)) :
    step_main_v127_3 V = nextActive (V (Proc.devRef .tc main_v127_0)) (V (Proc.devRef .tc main_v127_3)) := by
  unfold step_main_v127_3 res_main_while0b_v162 nextActive itsRow leastIx cols; rw [least_eq, valid_eq]; rfl

set_option maxRecDepth 8192 in
/-- The selection after a trip. -/
theorem step4_eq (V : Valuation τ sig (Elt Ideal)) :
    step_main_v127_4 V = nextSel (V (Proc.devRef .tc main_v127_2)) (V (Proc.devRef .tc main_v127_3)) (V (Proc.devRef .tc main_v127_4)) := by
  unfold step_main_v127_4 nextSel choice; rw [least_eq, valid_eq]; rfl

theorem minsi_ofNat {a b : ℕ} (ha : a < 2 ^ 31) (hb : b < 2 ^ 31) :
    IntOp.minsi (BitVec.ofNat 32 a) (BitVec.ofNat 32 b) = BitVec.ofNat 32 (min a b) := by
  unfold IntOp.minsi
  have h : (BitVec.ofNat 32 a).slt (BitVec.ofNat 32 b) = decide (a < b) := by
    rw [BitVec.slt_eq_decide, toInt_ofNat_of_lt (by simpa using ha), toInt_ofNat_of_lt (by simpa using hb)]
    exact decide_eq_decide.2 Int.ofNat_lt
  rw [h]
  by_cases hab : a < b
  · rw [if_pos (decide_eq_true hab), min_eq_left hab.le]
  · rw [if_neg (by simpa using hab), min_eq_right (not_lt.1 hab)]

/-- A minimum of small numbers, as words, is the word of their minimum. -/
theorem fold_minsi {ι : Type} [DecidableEq ι] (s : Finset ι) (f : ι → BitVec 32) (g : ι → ℕ) (hg : ∀ j, g j < 2 ^ 31)
    (hf : ∀ j, f j = BitVec.ofNat 32 (g j)) (z : ℕ) (hz : z < 2 ^ 31) :
    ∃ n, s.fold IntOp.minsi (BitVec.ofNat 32 z) f = BitVec.ofNat 32 n ∧ n ≤ z ∧ (∀ j ∈ s, n ≤ g j) ∧ (n = z ∨ ∃ j ∈ s, n = g j) := by
  induction s using Finset.induction_on with
  | empty => exact ⟨z, rfl, le_rfl, by simp, .inl rfl⟩
  | insert a s ha ih =>
    obtain ⟨n, h1, h2, h3, h4⟩ := ih
    refine ⟨min (g a) n, ?_, by omega, ?_, ?_⟩
    · rw [Finset.fold_insert ha, h1, hf a, minsi_ofNat (hg a) (by omega)]
    · intro j hj
      rcases Finset.mem_insert.1 hj with rfl | hj
      · omega
      · have := h3 j hj; omega
    · rcases le_total (g a) n with h | h
      · exact .inr ⟨a, Finset.mem_insert_self _ _, by omega⟩
      · rcases h4 with h4 | ⟨j, hj, h4⟩
        · exact .inl (by omega)
        · exact .inr ⟨j, Finset.mem_insert_of_mem hj, by omega⟩

/-- The least active number. -/
theorem least_spec (a : IVec S2x6000 1) (b : Fin 2) : ∃ n : Fin 6000, least a (ix1 b) = BitVec.ofNat 32 n.val
    ∧ (∀ j : Fin 6000, j < n → a (ix2 b j) ≠ 1#1) ∧ (a (ix2 b n) ≠ 1#1 → ∀ j : Fin 6000, a (ix2 b j) ≠ 1#1) := by
  have hl : least a (ix1 b) = Finset.fold IntOp.minsi (BitVec.ofNat 32 2147483647)
      (fun j : Fin 6000 => Scalar.select (a (ix2 b j)) (BitVec.ofNat 32 j.val) (BitVec.ofNat 32 5999)) Finset.univ := by
    pointwise [least, cols]
    rfl
  obtain ⟨n, h1, h2, h3, h4⟩ := fold_minsi (Finset.univ : Finset (Fin 6000))
    (fun j : Fin 6000 => Scalar.select (a (ix2 b j)) (BitVec.ofNat 32 j.val) (BitVec.ofNat 32 5999))
    (fun j => if a (ix2 b j) = 1#1 then j.val else 5999) (fun j => by have := j.isLt; split_ifs <;> omega)
    (fun j => by
      by_cases h : a (ix2 b j) = 1#1
      · rw [if_pos h]; exact if_pos h
      · rw [if_neg h]; exact if_neg h) 2147483647 (by norm_num)
  have h0 := h3 ⟨5999, by norm_num⟩ (Finset.mem_univ _)
  have hn : n < 6000 := by
    dsimp only at h0
    split_ifs at h0 <;> omega
  refine ⟨⟨n, hn⟩, hl.trans h1, fun j hj hj1 => ?_, fun hn1 j hj1 => ?_⟩
  · have := h3 j (Finset.mem_univ _)
    rw [if_pos hj1] at this
    have : j.val < n := hj
    omega
  · have h3j := h3 j (Finset.mem_univ _)
    rw [if_pos hj1] at h3j
    rcases h4 with h4 | ⟨k, -, h4⟩
    · omega
    · by_cases hk : a (ix2 b k) = 1#1
      · rw [if_pos hk] at h4
        exact hn1 (by rw [show (⟨n, hn⟩ : Fin 6000) = k from Fin.ext h4]; exact hk)
      · rw [if_neg hk] at h4
        have := j.isLt
        exact hn1 (by rw [show (⟨n, hn⟩ : Fin 6000) = j from Fin.ext (by show n = j.val; omega)]; exact hj1)

theorem leastIx_apply (a : IVec S2x6000 1) (b : Fin 2) (n : Fin 6000) (h : least a (ix1 b) = BitVec.ofNat 32 n.val) :
    leastIx a (ix3 b (0 : Fin 1) (0 : Fin 1)) = BitVec.ofNat 32 n.val := by
  pointwise [leastIx]
  exact (unwrapped _ _ n.val (by have := n.isLt; omega) h).trans h

theorem leastIx_row (a : IVec S2x6000 1) (b : Fin 2) (n : Fin 6000) (h : least a (ix1 b) = BitVec.ofNat 32 n.val) :
    min (leastIx a (ix3 b (0 : Fin 1) (0 : Fin 1))).toInt.toNat (6000 - 1) = n.val := by
  have hp := n.isLt
  rw [leastIx_apply a b n h, toInt_ofNat_of_lt (by norm_num; omega)]
  simp only [Int.toNat_natCast]
  omega

theorem valid_apply (a : IVec S2x6000 1) (b : Fin 2) (n : Fin 6000) (h : least a (ix1 b) = BitVec.ofNat 32 n.val) :
    valid a (ix2 b (0 : Fin 1)) = a (ix2 b n) :=
  (Rows.gather2 (by norm_num) _ a (leastIx a) b).trans (congrArg a (congrArg (fun k => ix2 b k) (Fin.ext (leastIx_row a b n h))))

theorem itsRow_apply (o : FVec Ideal S2x6000x6000 .f32) (a : IVec S2x6000 1) (b : Fin 2) (n j : Fin 6000) (h : least a (ix1 b) = BitVec.ofNat 32 n.val) :
    itsRow o a (ix3 b (0 : Fin 1) j) = o (ix3 b n j) :=
  (Rows.gather3 (by norm_num) _ o (leastIx a) b (0 : Fin 1) j).trans (congrArg o (congrArg (fun k => ix3 b k j) (Fin.ext (leastIx_row a b n h))))

theorem nextActive_apply (o : FVec Ideal S2x6000x6000 .f32) (a : IVec S2x6000 1) (b : Fin 2) (n j : Fin 6000) (h : least a (ix1 b) = BitVec.ofNat 32 n.val) :
    nextActive o a (ix2 b j) = 1#1 ↔ (a (ix2 b j) = 1#1 ∧ (a (ix2 b n) = 1#1 → ¬ Box.thr < (o (ix3 b n j) : EReal))) ∧ j ≠ n := by
  pointwise [nextActive, cols]
  rw [valid_apply a b n h, itsRow_apply o a b n j h, h]
  have hne : IntOp.cmpi .ne (BitVec.ofNat 32 j.val) (BitVec.ofNat 32 n.val) = BitVec.ofBool (decide (j ≠ n)) := by
    have hj := j.isLt
    have hn := n.isLt
    have : ((BitVec.ofNat 32 j.val != BitVec.ofNat 32 n.val) : Bool) = decide (j ≠ n) := by
      rw [Bool.eq_iff_iff, bne_iff_ne, decide_eq_true_iff]
      refine not_congr ⟨fun e => Fin.ext ?_, fun e => by rw [e]⟩
      have := congrArg BitVec.toNat e
      rw [BitVec.toNat_ofNat, BitVec.toNat_ofNat, Nat.mod_eq_of_lt (by omega), Nat.mod_eq_of_lt (by omega)] at this
      exact this
    show BitVec.ofBool _ = _
    exact congrArg BitVec.ofBool this
  rw [hne, show Ideal.ofBits .f32 1060320051#32 = Box.thr from rfl]
  have hP : ∀ x : BitVec 1, x = 0#1 ∨ x = 1#1 := fun x => BitVec.eq_zero_or_eq_one x
  by_cases h1 : j = n <;> by_cases h2 : Box.thr < (o (ix3 b n j) : EReal) <;>
    rcases hP (a (ix2 b j)) with h3 | h3 <;> rcases hP (a (ix2 b n)) with h4 | h4 <;>
    simp [h1, h2, h3, h4, Scalar.select, IntOp.andi]

theorem choice_apply (a : IVec S2x6000 1) (b : Fin 2) (n : Fin 6000) (h : least a (ix1 b) = BitVec.ofNat 32 n.val) :
    choice a (ix1 b) = if a (ix2 b n) = 1#1 then BitVec.ofNat 32 n.val else 4294967295#32 := by
  pointwise [choice]
  rw [valid_apply a b n h, h]
  rfl

theorem nextSel_apply (i : IVec S_ 32) (a : IVec S2x6000 1) (z : IVec S2x1000 32) (k : Fin 1000) (hi : ∀ u, i u = BitVec.ofNat 32 k.val)
    (b : Fin 2) (t : Fin 1000) : nextSel i a z (ix2 b t) = if t = k then choice a (ix1 b) else z (ix2 b t) := by
  have hk := k.isLt
  refine Routing.scatter_col_set _ z _ (choice a) k ?_ b t
  have : (broadcastInDim S1 ![] bcast_S_S1 (id (select (cmpi .slt i (constantI S_ 32 0#32)) (addi i (constantI S_ 32 1000#32)) i)))
      (ix1 (0 : Fin 1)) = BitVec.ofNat 32 k.val := (unwrapped _ 1000#32 k.val (by omega) (hi _)).trans (hi _)
  exact (congrArg BitVec.toInt this).trans (toInt_ofNat_of_lt (by norm_num; omega))

end Cert.Proof.Ref
-- ==== Proof.Ref.Result.lean ====
module

public import proofs.«01_k».proof.Proof.Ref.Step
public import proofs.«01_k».proof.Proof.Ref.Frame

@[expose] public section

/-!
# The reference's result

After `k` trips the active candidates are those that none of the first `k` kept ones is or overlaps, and the selection's
first `k` places hold the first `k` kept candidates, or `-1` where there are fewer. After 1000 trips the rows selected are
the result.
-/

noncomputable section

namespace Cert.Proof.Ref

open Cert.ReferenceIdeal Cert.ReferenceIdeal.Gen Cert.ReferenceIdeal.Value
open Idealize.ShloMosaic Idealize.ShloMosaic.TcCoe Idealize.ShloMosaic.Tactic Idealize.ShloMosaic.StableHlo Idealize.ShloMosaic.WordCmp
open Idealize.SL Idealize.SL.Sem

/-- The overlap relation of entry `b`. -/
abbrev M (x : FVec Ideal S2x6000x4 .f32) (b : Fin 2) : ℕ → ℕ → Prop := Box.over (boxes x b)

/-- Place `t` of the selection is right: the kept candidate that is number `t + 1`, or `-1` if there is none. -/
def Right (x : FVec Ideal S2x6000x4 .f32) (b : Fin 2) (t : ℕ) (w : BitVec 32) : Prop :=
  (∃ j : Fin 6000, Nms.keep 6000 (M x b) j.val ∧ Nms.cnt 6000 (M x b) j.val = t + 1 ∧ w = BitVec.ofNat 32 j.val)
    ∨ (∀ j, ¬ (Nms.keep 6000 (M x b) j ∧ Nms.cnt 6000 (M x b) j = t + 1)) ∧ w = 4294967295#32

/-- The state after `k` trips. -/
structure Inv (x : FVec Ideal S2x6000x4 .f32) (V : Valuation τ sig (Elt Ideal)) (k : ℕ) : Prop where
  pairs : V (Proc.devRef .tc main_v127_0) = ious x
  trips : ∀ u : S_.Idx, (V (Proc.devRef .tc main_v127_2) : IVec S_ 32) u = BitVec.ofNat 32 k
  active : ∀ (b : Fin 2) (j : Fin 6000), (V (Proc.devRef .tc main_v127_3) : IVec S2x6000 1) (ix2 b j) = 1#1 ↔ Nms.Act 6000 (M x b) k j.val
  chosen : ∀ (b : Fin 2) (t : Fin 1000), t.val < k → Right x b t.val ((V (Proc.devRef .tc main_v127_4) : IVec S2x1000 32) (ix2 b t))

/-- One trip. -/
theorem Inv.step {x : FVec Ideal S2x6000x4 .f32} {V : Valuation τ sig (Elt Ideal)} {k : ℕ} (hk : k < 1000) (h : Inv x V k) :
    Inv x (STEP V) (k + 1) := by
  have key : ∀ b : Fin 2, ∃ n : Fin 6000, least (V (Proc.devRef .tc main_v127_3)) (ix1 b) = BitVec.ofNat 32 n.val
      ∧ ((Nms.keep 6000 (M x b) n.val ∧ Nms.cnt 6000 (M x b) n.val = k + 1 ∧ (V (Proc.devRef .tc main_v127_3) : IVec S2x6000 1) (ix2 b n) = 1#1)
        ∨ ((V (Proc.devRef .tc main_v127_3) : IVec S2x6000 1) (ix2 b n) ≠ 1#1 ∧ ∀ j < 6000, ¬ Nms.Act 6000 (M x b) k j)) := by
    intro b
    obtain ⟨n, h1, h2, h3⟩ := least_spec (V (Proc.devRef .tc main_v127_3)) b
    refine ⟨n, h1, ?_⟩
    by_cases hn : (V (Proc.devRef .tc main_v127_3) : IVec S2x6000 1) (ix2 b n) = 1#1
    · have := Nms.keep_of_first (n := 6000) (M := M x b) n.isLt ((h.active b n).1 hn)
        (fun a ha hact => h2 ⟨a, ha.trans n.isLt⟩ ha ((h.active b ⟨a, ha.trans n.isLt⟩).2 hact))
      exact .inl ⟨this.1, this.2, hn⟩
    · exact .inr ⟨hn, fun j hj hact => h3 hn ⟨j, hj⟩ ((h.active b ⟨j, hj⟩).2 hact)⟩
  refine ⟨?_, ?_, ?_, ?_⟩
  · rw [STEP_main_v127_0]; exact h.pairs
  · intro u
    rw [STEP_main_v127_2]
    show IntOp.addi ((V (Proc.devRef .tc main_v127_2) : IVec S_ 32) u) 1#32 = _
    rw [h.trips u]
    exact (BitVec.ofNat_add k 1).symm
  · intro b j
    obtain ⟨n, h1, h2⟩ := key b
    rw [STEP_main_v127_3, step3_eq, nextActive_apply _ _ b n j h1, h.pairs, ious_gt, h.active b j]
    rcases h2 with ⟨hkp, hc, hn⟩ | ⟨hn, hno⟩
    · rw [Nms.act_succ hkp hc]
      constructor
      · rintro ⟨⟨ha, hm⟩, hne⟩; exact ⟨ha, hm hn, fun e => hne (Fin.ext e)⟩
      · rintro ⟨ha, hm, hne⟩; exact ⟨⟨ha, fun _ => hm⟩, fun e => hne (congrArg Fin.val e)⟩
    · constructor
      · rintro ⟨⟨ha, -⟩, -⟩; exact absurd ha (hno _ j.isLt)
      · intro ha; exact absurd (Nms.act_mono ha) (hno _ j.isLt)
  · intro b t ht
    obtain ⟨n, h1, h2⟩ := key b
    rw [STEP_main_v127_4, step4_eq, nextSel_apply _ _ _ ⟨k, hk⟩ h.trips]
    by_cases htk : t.val = k
    · rw [if_pos (Fin.ext htk), choice_apply _ b n h1]
      rcases h2 with ⟨hkp, hc, hn⟩ | ⟨hn, hno⟩
      · rw [if_pos hn, htk]; exact .inl ⟨n, hkp, hc, rfl⟩
      · rw [if_neg hn, htk]; exact .inr ⟨Nms.none_left hno, rfl⟩
    · rw [if_neg (fun e => htk (congrArg Fin.val e))]
      exact h.chosen b t (by omega)

variable (m : (ℓ : Loc nD τ sig) → Buf (Elt Ideal) ℓ) (c : Dev nD)

theorem inv_entry : Inv (P m c) (entryContents preI m c) 0 := by
  refine ⟨entry_v127_0 m c, fun u => ?_, fun b j => ?_, fun b t ht => absurd ht (Nat.not_lt_zero _)⟩
  · rw [entry_v127_2]; rfl
  · rw [entry_v127_3]
    exact ⟨fun _ => Nms.act_zero _, fun _ => rfl⟩

theorem inv_iter : ∀ k ≤ 1000, Inv (P m c) (STEP^[k] (entryContents preI m c)) k
  | 0, _ => inv_entry m c
  | k + 1, h => by
    rw [Function.iterate_succ_apply']
    exact (inv_iter k (by omega)).step (by omega)

/-- The rows that the selection names, zero where it names none. -/
def picked (x : FVec Ideal S2x6000x4 .f32) (z : IVec S2x1000 32) : FVec Ideal S2x1000x4 .f32 :=
  let y := maxsi z (broadcastInDim S2x1000 ![] bcast_S_S2x1000 (constantI S_ 32 0#32))
  select (broadcastInDim S2x1000x4 ![0, 1, 2] bcast_S2x1000x1_S2x1000x4_0_1_2 (broadcastInDim S2x1000x1 ![0, 1] bcast_S2x1000_S2x1000x1_0_1
      (cmpi .sge z (broadcastInDim S2x1000 ![] bcast_S_S2x1000 (constantI S_ 32 0#32)))))
    (Host.gather gather_S2x6000x4_S2x1000x1_S2x1000x4_2_1_0_0_1_2_114 x (broadcastInDim S2x1000x1 ![0, 1] bcast_S2x1000_S2x1000x1_0_1
      (select (cmpi .slt y (broadcastInDim S2x1000 ![] bcast_S_S2x1000 (constantI S_ 32 0#32)))
        (addi y (broadcastInDim S2x1000 ![] bcast_S_S2x1000 (constantI S_ 32 6000#32))) y)))
    (broadcastInDim S2x1000x4 ![] bcast_S_S2x1000x4 (constant S_ .f32 0x00000000#32))

theorem read_v140 (V : Valuation τ sig (Elt Ideal)) : afterL postI V (Proc.devRef .tc main_v140)
    = picked (V (Proc.devRef .tc main_v73)) (V (Proc.devRef .tc main_v127_4)) := by
  simp only [postI, afterL_cons, afterL_nil]
  after_reads_simp
  simp only [TRef.ofBuf_toBuf]
  unfold picked
  rfl

theorem picked_apply (x : FVec Ideal S2x6000x4 .f32) (z : IVec S2x1000 32) (b : Fin 2) (t : Fin 1000) (q : Fin 4)
    (h : Right x b t.val (z (ix2 b t))) : picked x z (ix3 b t q) = Box.outAt (boxes x b) t.val q := by
  have hs : picked x z (ix3 b t q) = Scalar.select (IntOp.cmpi .sge (z (ix2 b t)) 0#32)
      (Host.gather gather_S2x6000x4_S2x1000x1_S2x1000x4_2_1_0_0_1_2_114 x (broadcastInDim S2x1000x1 ![0, 1] bcast_S2x1000_S2x1000x1_0_1
        (select (cmpi .slt (maxsi z (broadcastInDim S2x1000 ![] bcast_S_S2x1000 (constantI S_ 32 0#32))) (broadcastInDim S2x1000 ![] bcast_S_S2x1000 (constantI S_ 32 0#32)))
          (addi (maxsi z (broadcastInDim S2x1000 ![] bcast_S_S2x1000 (constantI S_ 32 0#32))) (broadcastInDim S2x1000 ![] bcast_S_S2x1000 (constantI S_ 32 6000#32)))
          (maxsi z (broadcastInDim S2x1000 ![] bcast_S_S2x1000 (constantI S_ 32 0#32))))) (ix3 b t q))
      (0 : EReal) := by
    pointwise [picked]
  rcases h with ⟨j, hk, hc, hw⟩ | ⟨hno, hw⟩
  · have hj := j.isLt
    rw [hs, Box.outAt_eq hk hc, boxes_of_lt]
    have h1 : IntOp.cmpi .sge (z (ix2 b t)) 0#32 = 1#1 := by
      rw [hw]
      exact (cmpi_sle_ofNat_eq_one_iff (w := 32) (a := 0) (b := j.val) (by norm_num) (by norm_num; omega)).2 (Nat.zero_le _)
    rw [h1]
    refine (if_pos rfl).trans ?_
    refine (Rows.gather3 (by norm_num) _ x _ b t q).trans ?_
    refine congrArg x (congrArg (fun k => ix3 b k q) (Fin.ext ?_))
    pointwise
    have hmax : IntOp.maxsi (z (ix2 b t)) 0#32 = BitVec.ofNat 32 j.val := by
      rw [hw]
      unfold IntOp.maxsi
      have h2 : (0#32).slt (BitVec.ofNat 32 j.val) = decide (0 < j.val) := by
        rw [BitVec.slt_eq_decide, toInt_ofNat_of_lt (show j.val < 2 ^ (32 - 1) by norm_num; omega)]
        exact decide_eq_decide.2 (by simp)
      rcases Nat.eq_zero_or_pos j.val with e | e
      · rw [e]; rfl
      · simp [h2, e]
    rw [unwrapped _ _ j.val (by omega) hmax, hmax, toInt_ofNat_of_lt (by norm_num; omega)]
    simp only [Int.toNat_natCast]
    omega
  · rw [hs, Box.outAt_none hno, hw]
    exact if_neg (by decide)

/-- The reference's result at its end. -/
theorem final_v140 : finalContents condOps preI bodyI postI 1000 m c (Proc.devRef .tc main_v140)
    = (fun y : S2x1000x4.Idx => Box.outAt (boxes (P m c) (y 0)) (y 1).val (y 2)) := by
  show afterL postI (after condOps (atK m 1000 c)) (Proc.devRef .tc main_v140) = _
  rw [read_v140]
  have h73 : after condOps (atK m 1000 c) (Proc.devRef .tc main_v73) = P m c := by
    rw [after_of_writes_sub _ _ condOps_writes (by decide), atK_keep m c main_v73 (by decide), entry_v73]
  have h4 : after condOps (atK m 1000 c) (Proc.devRef .tc main_v127_4) = STEP^[1000] (entryContents preI m c) (Proc.devRef .tc main_v127_4) :=
    (cond_keeps _ main_v127_4 (by decide)).trans (atK_agree m c 1000 main_v127_4 (by decide))
  rw [h73, h4]
  funext y
  obtain ⟨b, t, q, rfl⟩ : ∃ (b : Fin 2) (t : Fin 1000) (q : Fin 4), y = ix3 b t q := ⟨y 0, y 1, y 2, by
    funext a
    match a with
    | ⟨0, _⟩ => rfl
    | ⟨1, _⟩ => rfl
    | ⟨2, _⟩ => rfl⟩
  exact picked_apply _ _ b t q ((inv_iter m c 1000 le_rfl).chosen b t t.isLt)

/-- The reference terminates; its result is the kept boxes in order, then zeros, and its arguments are as they were. -/
theorem run_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v140) = (fun y : S2x1000x4.Idx => Box.outAt (boxes (P m c) (y 0)) (y 1).val (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono
    (fun r h c => ⟨(h c main_v140 rfl).trans (final_v140 m c),
      (h c main_arg0 rfl).trans (final_keep m c main_arg0 (by decide +kernel) (by decide +kernel) (by decide +kernel) (by decide +kernel)),
      (h c main_arg1 rfl).trans (final_keep m c main_arg1 (by decide +kernel) (by decide +kernel) (by decide +kernel) (by decide +kernel)),
      (h c main_arg2 rfl).trans (final_keep m c main_arg2 (by decide +kernel) (by decide +kernel) (by decide +kernel) (by decide +kernel))⟩)
    (run_fold m ρ)

end Cert.Proof.Ref
-- ==== Proof.Equation.lean ====
module

public import proofs.«01_k».proof.Proof.Ideal.Prep
public import proofs.«01_k».proof.Proof.Ref.Result

@[expose] public section

/-!
# The kernel and the reference compute the same array
-/

noncomputable section

namespace Cert.Proof

open Idealize.ShloMosaic Idealize.ShloMosaic.TcCoe

/-- Both programs take the foreground scores alike. -/
theorem fg_same (s : FVec Ideal Cert.KernelIdeal.S2x20000x2 .f32) : Ref.fg s = Ideal.fg s := by
  funext y
  obtain ⟨b, n, rfl⟩ : ∃ (b : Fin 2) (n : Fin 20000), y = ix2 b n := ⟨y 0, y 1, by
    funext a
    match a with
    | ⟨0, _⟩ => rfl
    | ⟨1, _⟩ => rfl⟩
  rw [Ref.fg_apply, Ideal.fg_apply]

/-- Both programs scale the deltas alike. -/
theorem scaled_same (d : FVec Ideal Cert.KernelIdeal.S2x20000x4 .f32) (b : Fin 2) (n : Fin 20000) (q : Fin 4) :
    Ref.scaled d (ix3 b n q) = Ideal.scaled d (ix3 b n q) := by
  rw [Ref.scaled_apply, Ideal.scaled_apply]
  rfl

/-- The reference's boxes are the kernel's. -/
theorem boxes_same (s : FVec Ideal Cert.KernelIdeal.S2x20000x2 .f32) (d a : FVec Ideal Cert.KernelIdeal.S2x20000x4 .f32) (b : Fin 2)
    (j : ℕ) (hj : j < 6000) : Ref.boxes (Ref.props s d a) b j = Ideal.theBoxes s d a b j := by
  refine (Ref.boxes_of_lt _ b ⟨j, hj⟩).trans ((Ref.props_apply s d a b ⟨j, hj⟩).trans ?_)
  unfold Ideal.theBoxes
  rw [dif_pos hj]
  simp only [scaled_same, fg_same]

/-- The same result of the same arguments. -/
theorem result_same (s : FVec Ideal Cert.KernelIdeal.S2x20000x2 .f32) (d a : FVec Ideal Cert.KernelIdeal.S2x20000x4 .f32) (b : Fin 2)
    (t : ℕ) (q : Fin 4) :
    Box.outAt (Ideal.bxAt (Ideal.columns (Ideal.taken a (Ideal.words s))) (Ideal.columns (Ideal.halfExp (Ideal.taken (Ideal.scaled d) (Ideal.words s)))) b) t q
      = Box.outAt (Ref.boxes (Ref.props s d a) b) t q :=
  Box.outAt_congr (fun j hj => (Ideal.bxAt_eq s d a b j hj).trans (boxes_same s d a b j hj).symm) t q

end Cert.Proof
-- ==== Proof.lean ====
module

public import proofs.«01_k».proof.Defs
public import proofs.«01_k».proof.Proof.Bits.Run
public import proofs.«01_k».proof.Proof.Ideal.Run
public import proofs.«01_k».proof.Proof.Ref.Frame
public import proofs.«01_k».proof.Proof.Equation
public import proofs.«01_k».proof.Proof.Gen.ReferenceIdeal.Run

@[expose] public section

noncomputable section

namespace Cert.Proof

open Idealize.ShloMosaic Idealize.ShloMosaic.TcCoe Idealize.SL Idealize.SL.Sem

/-- Given the same arguments, both programs end with the kept boxes in order and then zeros. -/
theorem same : @Cert.algebraic_KernelIdeal_ReferenceIdeal Cert.KernelIdeal.Gen.facts Cert.ReferenceIdeal.Gen.facts := by
  intro m g m' g' _ hargs
  refine ⟨fun c => fun y : Cert.KernelIdeal.S2x1000x4.Idx =>
      Box.outAt (Ideal.bxAt (Ideal.V m c Cert.KernelIdeal.main_call0_v16) (Ideal.V m c Cert.KernelIdeal.main_call0_v15) (y 0)) (y 1).val (y 2),
    Ideal.run_value m g, ?_⟩
  refine (θ_run Cert.ReferenceIdeal.defs _ _).mono (fun r h c => ⟨(h c).1.trans ?_, (h c).2⟩) (Ref.run_value m' g')
  obtain ⟨h0, h1, h2⟩ := hargs c
  have hp : Ref.P m' c = Ref.props (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) := by
    unfold Ref.P
    rw [h0, h1, h2]
  have hv : ∀ (b : Fin 2) (t : ℕ) (q : Fin 4),
      Box.outAt (Ideal.bxAt (Ideal.V m c Cert.KernelIdeal.main_call0_v16) (Ideal.V m c Cert.KernelIdeal.main_call0_v15) b) t q
        = Box.outAt (Ref.boxes (Ref.P m' c) b) t q := by
    intro b t q
    rw [Ideal.V_v16, Ideal.V_v15, hp]
    exact result_same _ _ _ b t q
  exact funext fun y => (hv (y 0) (y 1).val (y 2)).symm

theorem claim : Cert.Claim := ⟨Cert.Kernel.Gen.facts, Cert.KernelIdeal.Gen.facts, Cert.ReferenceIdeal.Gen.facts,
  fun m ρ _ => Bits.frame m ρ, fun m ρ _ => Ideal.frame m ρ, fun m ρ _ => Ref.frame m ρ, trivial, same⟩

end Cert.Proof

end
